-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_logits [hPre_finite_logits : Cert.Pre_finite_logits.Facts] (m : (ℓ : Loc Cert.KernelIdeal.nD Cert.KernelIdeal.τ Cert.KernelIdeal.sig) → Buf (Elt Ideal) ℓ) : Prop :=
  ∀ c : Dev Cert.KernelIdeal.nD,
    (Cert.Pre_finite_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_logits [hPre_finite_logits : Cert.Pre_finite_logits.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_logits [hKernelIdeal : Cert.KernelIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_logits m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_logits [hReferenceIdeal : Cert.ReferenceIdeal.Facts] [hPre_finite_logits : Cert.Pre_finite_logits.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_logits m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_logits [hKernelIdeal : Cert.KernelIdeal.Facts] [hReferenceIdeal : Cert.ReferenceIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_logits m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_logits : Cert.Pre_finite_logits.Facts),
    quiescent_Kernel (hKernel := hKernel)
    ∧ quiescent_KernelIdeal (hKernelIdeal := hKernelIdeal)
    ∧ quiescent_KernelIdeal_pre_finite_logits (hKernelIdeal := hKernelIdeal) (hPre_finite_logits := hPre_finite_logits)
    ∧ quiescent_ReferenceIdeal (hReferenceIdeal := hReferenceIdeal)
    ∧ quiescent_ReferenceIdeal_pre_finite_logits (hReferenceIdeal := hReferenceIdeal) (hPre_finite_logits := hPre_finite_logits)
    ∧ preserves_Kernel_KernelIdeal
    ∧ algebraic_KernelIdeal_ReferenceIdeal_pre_finite_logits (hKernelIdeal := hKernelIdeal) (hReferenceIdeal := hReferenceIdeal) (hPre_finite_logits := hPre_finite_logits)
-- ==== Pre_finite_logits.lean ====
abbrev S4x14x384x384 : Shape := ⟨4, ![4, 14, 384, 384]⟩
abbrev S4x1x384x384 : Shape := ⟨4, ![4, 1, 384, 384]⟩
abbrev S_ : Shape := ⟨0, ![]⟩

class Facts : Prop where
  bcast_S_S4x14x384x384 : S_.BroadcastsInDim S4x14x384x384 (![] : Fin 0 → Fin S4x14x384x384.rank)

variable [Facts]

def fn {F : FTy → Type} [FloatOps F] (main_arg0 : FVec F S4x14x384x384 .f32) (main_arg1 : FVec F S4x14x384x384 .f32) (main_arg2 : IVec S4x1x384x384 32) : IVec S4x14x384x384 1 :=
  let main_v0 : FVec F S4x14x384x384 .f32 := Host.absf main_arg0
  let main_cst : FVec F S_ .f32 := constant S_ .f32 0x7F800000#32
  let main_v1 : FVec F S4x14x384x384 .f32 := broadcastInDim S4x14x384x384 ![] bcast_S_S4x14x384x384 main_cst
  let main_v2 : IVec S4x14x384x384 1 := cmpf .olt main_v0 main_v1
  let main_v3 : FVec F S4x14x384x384 .f32 := Host.absf main_arg1
  let main_cst_0 : FVec F S_ .f32 := constant S_ .f32 0x7F800000#32
  let main_v4 : FVec F S4x14x384x384 .f32 := broadcastInDim S4x14x384x384 ![] bcast_S_S4x14x384x384 main_cst_0
  let main_v5 : IVec S4x14x384x384 1 := cmpf .olt main_v3 main_v4
  let main_v6 : IVec S4x14x384x384 1 := andi main_v2 main_v5
  main_v6
-- ==== Kernel.lean ====
abbrev S4x14x384x384 : Shape := ⟨4, ![4, 14, 384, 384]⟩
abbrev S4x1x384x384 : Shape := ⟨4, ![4, 1, 384, 384]⟩
abbrev S4x384x384 : Shape := ⟨3, ![4, 384, 384]⟩
abbrev S1 : Shape := ⟨1, ![1]⟩
abbrev S1x14x384x384 : Shape := ⟨4, ![1, 14, 384, 384]⟩
abbrev S1x384x384 : Shape := ⟨3, ![1, 384, 384]⟩
abbrev S16x384 : Shape := ⟨2, ![16, 384]⟩
abbrev S384x384 : Shape := ⟨2, ![384, 384]⟩
abbrev S1x1x8x384 : Shape := ⟨4, ![1, 1, 8, 384]⟩
abbrev S8x384 : Shape := ⟨2, ![8, 384]⟩
abbrev S1x1x384 : Shape := ⟨3, ![1, 1, 384]⟩
abbrev S1x384 : Shape := ⟨2, ![1, 384]⟩
abbrev S384 : Shape := ⟨1, ![384]⟩
abbrev S16 : Shape := ⟨1, ![16]⟩
abbrev S1x16 : Shape := ⟨2, ![1, 16]⟩
abbrev S1x1 : Shape := ⟨2, ![1, 1]⟩
abbrev S_ : Shape := ⟨0, ![]⟩

abbrev nBuf : Space → Nat
  | .hbm => 6
  | .vmem => 10
  | .smem => 2
  | _ => 0

abbrev bufTy : (tb : Table) → Fin (tcTables nBuf tb) → BufTy
  | .hbm, ⟨0, _⟩ => ⟨S4x14x384x384, .f32⟩
  | .hbm, ⟨1, _⟩ => ⟨S4x14x384x384, .f32⟩
  | .hbm, ⟨2, _⟩ => ⟨S4x1x384x384, .i32⟩
  | .hbm, ⟨3, _⟩ => ⟨S4x384x384, .i32⟩
  | .hbm, ⟨4, _⟩ => ⟨S1, .f32⟩
  | .hbm, ⟨5, _⟩ => ⟨S_, .f32⟩
  | .local _ .vmem, ⟨0, _⟩ => ⟨S1x14x384x384, .f32⟩
  | .local _ .vmem, ⟨1, _⟩ => ⟨S1x14x384x384, .f32⟩
  | .local _ .vmem, ⟨2, _⟩ => ⟨S1x14x384x384, .f32⟩
  | .local _ .vmem, ⟨3, _⟩ => ⟨S1x14x384x384, .f32⟩
  | .local _ .vmem, ⟨4, _⟩ => ⟨S1x384x384, .i32⟩
  | .local _ .vmem, ⟨5, _⟩ => ⟨S1x384x384, .i32⟩
  | .local _ .vmem, ⟨6, _⟩ => ⟨S16x384, .f32⟩
  | .local _ .vmem, ⟨7, _⟩ => ⟨S16x384, .i32⟩
  | .local _ .vmem, ⟨8, _⟩ => ⟨S16x384, .f32⟩
  | .local _ .vmem, ⟨9, _⟩ => ⟨S384x384, .f32⟩
  | .local _ .smem, ⟨0, _⟩ => ⟨S1, .f32⟩
  | .local _ .smem, ⟨1, _⟩ => ⟨S1, .f32⟩
  | _, _ => ⟨S4x14x384x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_stg3_0 : Ref sig .tc := ⟨.smem, 0, rfl⟩
abbrev cc0_scratch4 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨2, ![4, 1], ![false, false]⟩

def k0_off1 (i : grid0.Coords) : Fin 3 → Nat :=
  let c0_6809 : Index := 0#32
  let arg1 : BitVec 32 := BitVec.ofNat 32 (i 1).val
  let c384_i32 : BitVec 32 := 384#32
  let v10377 : BitVec 32 := Scalar.muli arg1 c384_i32
  let v10378 : Index := Scalar.indexCast v10377
  let c0_6810 : Index := 0#32
  ![0, v10378.toNat, 0]
def k0_off2 (i : grid0.Coords) : Fin 3 → Nat :=
  let c0_6812 : Index := 0#32
  let arg1 : BitVec 32 := BitVec.ofNat 32 (i 1).val
  let c384_i32 : BitVec 32 := 384#32
  let v10377 : BitVec 32 := Scalar.muli arg1 c384_i32
  let c1_i32 : BitVec 32 := 1#32
  let v10383 : BitVec 32 := Scalar.subi v10377 c1_i32
  let c0_i32_6811 : BitVec 32 := 0#32
  let v10384 : BitVec 32 := Scalar.maxsi v10383 c0_i32_6811
  let v10385 : Index := Scalar.indexCast v10384
  let c0_6813 : Index := 0#32
  ![0, v10385.toNat, 0]
def k0_off3 (i : grid0.Coords) : Fin 3 → Nat :=
  let c0_6815 : Index := 0#32
  let arg1 : BitVec 32 := BitVec.ofNat 32 (i 1).val
  let c384_i32 : BitVec 32 := 384#32
  let v10377 : BitVec 32 := Scalar.muli arg1 c384_i32
  let c384_i32_6814 : BitVec 32 := 384#32
  let v10388 : BitVec 32 := Scalar.addi v10377 c384_i32_6814
  let c383_i32 : BitVec 32 := 383#32
  let v10389 : BitVec 32 := Scalar.minsi v10388 c383_i32
  let v10390 : Index := Scalar.indexCast v10389
  let c0_6816 : Index := 0#32
  ![0, v10390.toNat, 0]
def k0_cond4 (i : grid0.Coords) : BitVec 1 :=
  let arg0 : BitVec 32 := BitVec.ofNat 32 (i 0).val
  let c3_i32_7058 : BitVec 32 := 3#32
  let v10791 : BitVec 1 := Scalar.cmpi .eq arg0 c3_i32_7058
  let arg1 : BitVec 32 := BitVec.ofNat 32 (i 1).val
  let c0_i32_7059 : BitVec 32 := 0#32
  let v10792 : BitVec 1 := Scalar.cmpi .eq arg1 c0_i32_7059
  let v10793 : BitVec 1 := Scalar.andi v10791 v10792
  let v10794 : BitVec 32 := Scalar.extui v10793
  let c0_i32_7060 : BitVec 32 := 0#32
  let v10795 : BitVec 1 := Scalar.cmpi .ne v10794 c0_i32_7060
  v10795

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

abbrev stage0_0 : Fin 2 → Memref sig .tc .vmem S1x14x384x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x14x384x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x384x384 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]
-- ==== ReferenceIdeal.lean ====
abbrev S4x14x384x384 : Shape := ⟨4, ![4, 14, 384, 384]⟩
abbrev S4x1x384x384 : Shape := ⟨4, ![4, 1, 384, 384]⟩
abbrev S_ : Shape := ⟨0, ![]⟩
abbrev S4x384x384 : Shape := ⟨3, ![4, 384, 384]⟩
abbrev S13 : Shape := ⟨1, ![13]⟩
abbrev S1x13x1x1 : Shape := ⟨4, ![1, 13, 1, 1]⟩
abbrev S4x13x384x384 : Shape := ⟨4, ![4, 13, 384, 384]⟩
abbrev S4x13x386x386 : Shape := ⟨4, ![4, 13, 386, 386]⟩
abbrev S147456 : Shape := ⟨1, ![147456]⟩
abbrev S384x384 : Shape := ⟨2, ![384, 384]⟩
abbrev S4x13 : Shape := ⟨2, ![4, 13]⟩
abbrev S4x14x1x384x384 : Shape := ⟨5, ![4, 14, 1, 384, 384]⟩
abbrev S4x1x13x384x384 : Shape := ⟨5, ![4, 1, 13, 384, 384]⟩
abbrev S4x14x13x384x384 : Shape := ⟨5, ![4, 14, 13, 384, 384]⟩

abbrev nBuf : Space → Nat
  | .hbm => 104
  | .vmem => 0
  | .smem => 0
  | _ => 0

abbrev bufTy : (tb : Table) → Fin (tcTables nBuf tb) → BufTy
  | .hbm, ⟨0, _⟩ => ⟨S4x14x384x384, .f32⟩
  | .hbm, ⟨1, _⟩ => ⟨S4x14x384x384, .f32⟩
  | .hbm, ⟨2, _⟩ => ⟨S4x1x384x384, .i32⟩
  | .hbm, ⟨3, _⟩ => ⟨S_, .f32⟩
  | .hbm, ⟨4, _⟩ => ⟨S4x14x384x384, .f32⟩
  | .hbm, ⟨5, _⟩ => ⟨S4x14x384x384, .f32⟩
  | .hbm, ⟨6, _⟩ => ⟨S_, .f32⟩
  | .hbm, ⟨7, _⟩ => ⟨S4x384x384, .f32⟩
  | .hbm, ⟨8, _⟩ => ⟨S_, .f32⟩
  | .hbm, ⟨9, _⟩ => ⟨S4x384x384, .f32⟩
  | .hbm, ⟨10, _⟩ => ⟨S4x384x384, .f32⟩
  | .hbm, ⟨11, _⟩ => ⟨S4x1x384x384, .f32⟩
  | .hbm, ⟨12, _⟩ => ⟨S4x14x384x384, .f32⟩
  | .hbm, ⟨13, _⟩ => ⟨S4x14x384x384, .f32⟩
  | .hbm, ⟨14, _⟩ => ⟨S4x14x384x384, .f32⟩
  | .hbm, ⟨15, _⟩ => ⟨S_, .f32⟩
  | .hbm, ⟨16, _⟩ => ⟨S4x384x384, .f32⟩
  | .hbm, ⟨17, _⟩ => ⟨S4x1x384x384, .f32⟩
  | .hbm, ⟨18, _⟩ => ⟨S4x1x384x384, .f32⟩
  | .hbm, ⟨19, _⟩ => ⟨S4x14x384x384, .f32⟩
  | .hbm, ⟨20, _⟩ => ⟨S4x14x384x384, .f32⟩
  | .hbm, ⟨21, _⟩ => ⟨S_, .f32⟩
  | .hbm, ⟨22, _⟩ => ⟨S4x14x384x384, .f32⟩
  | .hbm, ⟨23, _⟩ => ⟨S4x14x384x384, .f32⟩
  | .hbm, ⟨24, _⟩ => ⟨S_, .f32⟩
  | .hbm, ⟨25, _⟩ => ⟨S4x384x384, .f32⟩
  | .hbm, ⟨26, _⟩ => ⟨S_, .f32⟩
  | .hbm, ⟨27, _⟩ => ⟨S4x384x384, .f32⟩
  | .hbm, ⟨28, _⟩ => ⟨S4x384x384, .f32⟩
  | .hbm, ⟨29, _⟩ => ⟨S4x1x384x384, .f32⟩
  | .hbm, ⟨30, _⟩ => ⟨S4x14x384x384, .f32⟩
  | .hbm, ⟨31, _⟩ => ⟨S4x14x384x384, .f32⟩
  | .hbm, ⟨32, _⟩ => ⟨S4x14x384x384, .f32⟩
  | .hbm, ⟨33, _⟩ => ⟨S_, .f32⟩
  | .hbm, ⟨34, _⟩ => ⟨S4x384x384, .f32⟩
  | .hbm, ⟨35, _⟩ => ⟨S4x1x384x384, .f32⟩
  | .hbm, ⟨36, _⟩ => ⟨S4x1x384x384, .f32⟩
  | .hbm, ⟨37, _⟩ => ⟨S4x14x384x384, .f32⟩
  | .hbm, ⟨38, _⟩ => ⟨S4x14x384x384, .f32⟩
  | .hbm, ⟨39, _⟩ => ⟨S4x14x384x384, .f32⟩
  | .hbm, ⟨40, _⟩ => ⟨S4x14x384x384, .f32⟩
  | .hbm, ⟨41, _⟩ => ⟨S4x14x384x384, .f32⟩
  | .hbm, ⟨42, _⟩ => ⟨S13, .i32⟩
  | .hbm, ⟨43, _⟩ => ⟨S_, .i32⟩
  | .hbm, ⟨44, _⟩ => ⟨S13, .i32⟩
  | .hbm, ⟨45, _⟩ => ⟨S13, .i32⟩
  | .hbm, ⟨46, _⟩ => ⟨S1x13x1x1, .i32⟩
  | .hbm, ⟨47, _⟩ => ⟨S4x13x384x384, .i32⟩
  | .hbm, ⟨48, _⟩ => ⟨S4x13x384x384, .i32⟩
  | .hbm, ⟨49, _⟩ => ⟨S4x13x384x384, .i1⟩
  | .hbm, ⟨50, _⟩ => ⟨S_, .i1⟩
  | .hbm, ⟨51, _⟩ => ⟨S4x13x386x386, .i1⟩
  | .hbm, ⟨52, _⟩ => ⟨S4x13x384x384, .i1⟩
  | .hbm, ⟨53, _⟩ => ⟨S4x13x384x384, .i1⟩
  | .hbm, ⟨54, _⟩ => ⟨S4x13x384x384, .i1⟩
  | .hbm, ⟨55, _⟩ => ⟨S4x13x384x384, .i1⟩
  | .hbm, ⟨56, _⟩ => ⟨S4x13x384x384, .i1⟩
  | .hbm, ⟨57, _⟩ => ⟨S4x13x384x384, .i1⟩
  | .hbm, ⟨58, _⟩ => ⟨S4x13x384x384, .i1⟩
  | .hbm, ⟨59, _⟩ => ⟨S4x13x384x384, .i1⟩
  | .hbm, ⟨60, _⟩ => ⟨S4x13x384x384, .i1⟩
  | .hbm, ⟨61, _⟩ => ⟨S4x13x384x384, .i1⟩
  | .hbm, ⟨62, _⟩ => ⟨S147456, .i32⟩
  | .hbm, ⟨63, _⟩ => ⟨S384x384, .i32⟩
  | .hbm, ⟨64, _⟩ => ⟨S4x13x384x384, .i32⟩
  | .hbm, ⟨65, _⟩ => ⟨S_, .i32⟩
  | .hbm, ⟨66, _⟩ => ⟨S4x13, .i32⟩
  | .hbm, ⟨67, _⟩ => ⟨S_, .i32⟩
  | .hbm, ⟨68, _⟩ => ⟨S_, .i32⟩
  | .hbm, ⟨69, _⟩ => ⟨S4x13x384x384, .i32⟩
  | .hbm, ⟨70, _⟩ => ⟨S4x13x384x384, .i32⟩
  | .hbm, ⟨71, _⟩ => ⟨S4x13x384x384, .i32⟩
  | .hbm, ⟨72, _⟩ => ⟨S_, .i32⟩
  | .hbm, ⟨73, _⟩ => ⟨S4x13, .i32⟩
  | .hbm, ⟨74, _⟩ => ⟨S_, .i32⟩
  | .hbm, ⟨75, _⟩ => ⟨S4x13, .i32⟩
  | .hbm, ⟨76, _⟩ => ⟨S4x13, .i32⟩
  | .hbm, ⟨77, _⟩ => ⟨S_, .i32⟩
  | .hbm, ⟨78, _⟩ => ⟨S4x13, .i32⟩
  | .hbm, ⟨79, _⟩ => ⟨S4x13, .i32⟩
  | .hbm, ⟨80, _⟩ => ⟨S4x13, .f32⟩
  | .hbm, ⟨81, _⟩ => ⟨S4x13x384x384, .f32⟩
  | .hbm, ⟨82, _⟩ => ⟨S4x14x1x384x384, .f32⟩
  | .hbm, ⟨83, _⟩ => ⟨S4x1x13x384x384, .f32⟩
  | .hbm, ⟨84, _⟩ => ⟨S4x14x13x384x384, .f32⟩
  | .hbm, ⟨85, _⟩ => ⟨S4x14x13x384x384, .f32⟩
  | .hbm, ⟨86, _⟩ => ⟨S4x14x13x384x384, .f32⟩
  | .hbm, ⟨87, _⟩ => ⟨S_, .f32⟩
  | .hbm, ⟨88, _⟩ => ⟨S4x13, .f32⟩
  | .hbm, ⟨89, _⟩ => ⟨S4x13, .f32⟩
  | .hbm, ⟨90, _⟩ => ⟨S_, .i32⟩
  | .hbm, ⟨91, _⟩ => ⟨S4x13, .i32⟩
  | .hbm, ⟨92, _⟩ => ⟨S4x13, .i1⟩
  | .hbm, ⟨93, _⟩ => ⟨S_, .f32⟩
  | .hbm, ⟨94, _⟩ => ⟨S4x13, .f32⟩
  | .hbm, ⟨95, _⟩ => ⟨S4x13, .f32⟩
  | .hbm, ⟨96, _⟩ => ⟨S_, .f32⟩
  | .hbm, ⟨97, _⟩ => ⟨S_, .f32⟩
  | .hbm, ⟨98, _⟩ => ⟨S4x13, .f32⟩
  | .hbm, ⟨99, _⟩ => ⟨S4x13, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .f32⟩
  | _, _ => ⟨S4x14x384x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_call0_cst : Ref sig .tc := ⟨.hbm, 6, rfl⟩
abbrev main_call0_v0 : Ref sig .tc := ⟨.hbm, 7, rfl⟩
abbrev main_call0_cst_0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_cst_1 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_v2 : Ref sig .tc := ⟨.hbm, 20, rfl⟩
abbrev main_cst_0 : Ref sig .tc := ⟨.hbm, 21, rfl⟩
abbrev main_v3 : Ref sig .tc := ⟨.hbm, 22, rfl⟩
abbrev main_v4 : Ref sig .tc := ⟨.hbm, 23, rfl⟩
abbrev main_call1_cst : Ref sig .tc := ⟨.hbm, 24, rfl⟩
abbrev main_call1_v0 : Ref sig .tc := ⟨.hbm, 25, rfl⟩
abbrev main_call1_cst_0 : Ref sig .tc := ⟨.hbm, 26, rfl⟩
abbrev main_call1_v1 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_call1_v5 : Ref sig .tc := ⟨.hbm, 31, rfl⟩
abbrev main_call1_v6 : Ref sig .tc := ⟨.hbm, 32, rfl⟩
abbrev main_call1_cst_1 : Ref sig .tc := ⟨.hbm, 33, rfl⟩
abbrev main_call1_v7 : Ref sig .tc := ⟨.hbm, 34, rfl⟩
abbrev main_call1_v8 : Ref sig .tc := ⟨.hbm, 35, rfl⟩
abbrev main_call1_v9 : Ref sig .tc := ⟨.hbm, 36, rfl⟩
abbrev main_call1_v10 : Ref sig .tc := ⟨.hbm, 37, rfl⟩
abbrev main_v5 : Ref sig .tc := ⟨.hbm, 38, rfl⟩
abbrev main_v6 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_c : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_c_1 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_c_2 : Ref sig .tc := ⟨.hbm, 65, rfl⟩
abbrev main_v30 : Ref sig .tc := ⟨.hbm, 66, rfl⟩
abbrev main_c_3 : Ref sig .tc := ⟨.hbm, 67, rfl⟩
abbrev main_call3_v0 : Ref sig .tc := ⟨.hbm, 68, rfl⟩
abbrev main_call3_v1 : Ref sig .tc := ⟨.hbm, 69, rfl⟩
abbrev main_call3_v2 : Ref sig .tc := ⟨.hbm, 70, rfl⟩
abbrev main_v31 : Ref sig .tc := ⟨.hbm, 71, rfl⟩
abbrev main_c_4 : Ref sig .tc := ⟨.hbm, 72, rfl⟩
abbrev main_v32 : Ref sig .tc := ⟨.hbm, 73, rfl⟩
abbrev main_c_5 : Ref sig .tc := ⟨.hbm, 74, rfl⟩
abbrev main_v33 : Ref sig .tc := ⟨.hbm, 75, rfl⟩
abbrev main_v34 : Ref sig .tc := ⟨.hbm, 76, rfl⟩
abbrev main_c_6 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_cst_7 : Ref sig .tc := ⟨.hbm, 87, rfl⟩
abbrev main_v44 : Ref sig .tc := ⟨.hbm, 88, rfl⟩
abbrev main_v45 : Ref sig .tc := ⟨.hbm, 89, rfl⟩
abbrev main_c_8 : Ref sig .tc := ⟨.hbm, 90, rfl⟩
abbrev main_v46 : Ref sig .tc := ⟨.hbm, 91, rfl⟩
abbrev main_v47 : Ref sig .tc := ⟨.hbm, 92, rfl⟩
abbrev main_cst_9 : Ref sig .tc := ⟨.hbm, 93, rfl⟩
abbrev main_v48 : Ref sig .tc := ⟨.hbm, 94, rfl⟩
abbrev main_v49 : Ref sig .tc := ⟨.hbm, 95, rfl⟩
abbrev main_cst_10 : Ref sig .tc := ⟨.hbm, 96, rfl⟩
abbrev main_call4_v0 : Ref sig .tc := ⟨.hbm, 97, rfl⟩
abbrev main_call4_v1 : Ref sig .tc := ⟨.hbm, 98, rfl⟩
abbrev main_v50 : Ref sig .tc := ⟨.hbm, 99, rfl⟩
abbrev main_cst_11 : Ref sig .tc := ⟨.hbm, 100, rfl⟩
abbrev main_v51 : Ref sig .tc := ⟨.hbm, 101, rfl⟩
abbrev main_cst_12 : Ref sig .tc := ⟨.hbm, 102, rfl⟩
abbrev main_v52 : Ref sig .tc := ⟨.hbm, 103, rfl⟩

abbrev nD : Nat := 1
abbrev τ : Topo := Topo.v7x

variable {F : FTy → Type} [FloatOps F]
-- ==== Proof.RefFrame.lean ====
/- The frame of the reference: its run leaves the arguments alone, and it has no semaphore. -/
module

public import proofs.«01_k».proof.Proof.Gen.ReferenceIdeal.Run
public import Idealize.ShloMosaic.Lib.Quiescent
public import Idealize.ShloMosaic.PureOps.Ideal

@[expose] public section

noncomputable section

namespace Cert.RefFrame

open Cert.ReferenceIdeal Idealize.ShloMosaic Idealize.ShloMosaic.TcCoe Idealize.SL.Sem

/-- Every run of the reference ends with its three arguments as they were and with every counter at zero. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ fun r =>
      (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
      ∧ r.2.sem = fun _ => 0 :=
  (θ_run defs _ _).mono (fun _ h => ⟨fun c => (h c).2, sem_eq_zero_of_no_sems (by decide) _⟩) (Value.run m ρ)

end Cert.RefFrame

end
-- ==== Proof.Pixel.lean ====
/- One pixel: the closed form the kernel computes from the fourteen class logits of a pixel, and the sum of the
   log-softmax differences the reference computes, are the same extended real when every logit is a real number. -/
module

public import Idealize.ShloMosaic.PureOps.Ideal

@[expose] public section

noncomputable section

namespace Cert.Spec

open Idealize.ShloMosaic

/-- The divergence of one pixel as the kernel computes it: the sum of `exp T * (T - S)` over the classes, scaled by the
    reciprocal of the teacher's partition sum, plus the logarithm of the ratio of the two partition sums. -/
def klPix (s t : Fin 14 → EReal) : EReal :=
  (∑ c, Ideal.exp (t c) * (t c - s c)) * Ideal.div 1 (∑ c, Ideal.exp (t c))
    + Ideal.log ((∑ c, Ideal.exp (s c)) * Ideal.div 1 (∑ c, Ideal.exp (t c)))

/-- The shift of the stable log-softmax: the largest logit. -/
def shift (x : Fin 14 → EReal) : EReal := max ⊥ (Finset.univ.fold max ⊥ x)

/-- The stable log-softmax of one class. -/
def logSoft (x : Fin 14 → EReal) (c : Fin 14) : EReal :=
  (x c - shift x) - Ideal.log (∑ k, Ideal.exp (x k - shift x))

/-- The contribution of one class to the divergence of a pixel as the reference computes it. -/
def refPix (s t : Fin 14 → EReal) (c : Fin 14) : EReal :=
  Ideal.exp (logSoft t c) * (logSoft t c - logSoft s c)

/-- A finite sum of real numbers, read as extended reals. -/
theorem coe_sum {ι : Type} (A : Finset ι) (f : ι → ℝ) : (∑ i ∈ A, (f i : EReal)) = ((∑ i ∈ A, f i : ℝ) : EReal) := by
  classical
  induction A using Finset.induction_on with
  | empty => simp
  | insert a A ha ih => rw [Finset.sum_insert ha, Finset.sum_insert ha, ih, EReal.coe_add]

/-- The largest of finitely many reals, taken from minus infinity, is minus infinity only for the empty family. -/
theorem fold_max_real {ι : Type} (A : Finset ι) (f : ι → ℝ) :
    (A = ∅ ∧ A.fold max ⊥ (fun i => (f i : EReal)) = ⊥) ∨ ∃ M : ℝ, A.fold max ⊥ (fun i => (f i : EReal)) = M := by
  classical
  induction A using Finset.induction_on with
  | empty => left; simp
  | insert a A ha ih =>
    right
    rw [Finset.fold_insert ha]
    rcases ih with ⟨-, h⟩ | ⟨M, h⟩
    · exact ⟨f a, by rw [h]; exact max_eq_left bot_le⟩
    · exact ⟨max (f a) M, by rw [h]; exact (EReal.coe_strictMono.monotone.map_max).symm⟩

/-- The shift of real logits is a real number. -/
theorem shift_real (x : Fin 14 → ℝ) : ∃ M : ℝ, shift (fun c => (x c : EReal)) = M := by
  rcases fold_max_real Finset.univ x with ⟨h, -⟩ | ⟨M, h⟩
  · exact absurd h (Finset.univ_nonempty.ne_empty)
  · exact ⟨M, by unfold shift; rw [h]; exact max_eq_right bot_le⟩

/-- The partition sum of real logits is positive. -/
theorem part_pos (x : Fin 14 → ℝ) : 0 < ∑ c, Real.exp (x c) :=
  Finset.sum_pos (fun c _ => Real.exp_pos _) Finset.univ_nonempty

/-- The stable log-softmax of real logits is the logit less the logarithm of the partition sum: the shift cancels. -/
theorem logSoft_real (x : Fin 14 → ℝ) (c : Fin 14) :
    logSoft (fun c => (x c : EReal)) c = ((x c - Real.log (∑ k, Real.exp (x k)) : ℝ) : EReal) := by
  obtain ⟨M, hM⟩ := shift_real x
  have hs : ∑ k, Real.exp (x k - M) = (∑ k, Real.exp (x k)) * Real.exp (-M) := by
    rw [Finset.sum_mul]
    exact Finset.sum_congr rfl fun k _ => by rw [← Real.exp_add]; rfl
  have hp : 0 < ∑ k, Real.exp (x k - M) := by
    rw [hs]; exact mul_pos (part_pos x) (Real.exp_pos _)
  unfold logSoft
  rw [hM]
  simp only [← EReal.coe_sub, Ideal.exp_coe, coe_sum, Ideal.log_coe, if_neg (not_le.mpr hp)]
  rw [hs, Real.log_mul (part_pos x).ne' (Real.exp_pos _).ne', Real.log_exp]
  congr 1; ring

/-- The identity of one pixel: with real logits the classes' contributions add up to the kernel's closed form. -/
theorem sum_refPix_real (s t : Fin 14 → ℝ) :
    ∑ c, refPix (fun c => (s c : EReal)) (fun c => (t c : EReal)) c
      = klPix (fun c => (s c : EReal)) (fun c => (t c : EReal)) := by
  have hT := part_pos t
  have hS := part_pos s
  have hd : Ideal.div 1 ((∑ c, Real.exp (t c) : ℝ) : EReal) = (((∑ c, Real.exp (t c))⁻¹ : ℝ) : EReal) := by
    unfold Ideal.div
    rw [if_neg (by exact_mod_cast hT.ne'), one_mul, EReal.coe_inv]
  have hq : 0 < (∑ c, Real.exp (s c)) * (∑ c, Real.exp (t c))⁻¹ := mul_pos hS (inv_pos.mpr hT)
  unfold refPix klPix
  simp only [logSoft_real, ← EReal.coe_sub, Ideal.exp_coe, ← EReal.coe_mul, coe_sum, hd, Ideal.log_coe,
    if_neg (not_le.mpr hq), ← EReal.coe_add]
  congr 1
  set ZT := ∑ c, Real.exp (t c) with hZT
  set ZS := ∑ c, Real.exp (s c) with hZS
  rw [Real.log_mul hS.ne' (inv_pos.mpr hT).ne', Real.log_inv]
  have hterm : ∀ c, Real.exp (t c - Real.log ZT) * (t c - Real.log ZT - (s c - Real.log ZS))
      = Real.exp (t c) * (t c - s c) * ZT⁻¹ + Real.exp (t c) * (ZT⁻¹ * (Real.log ZS - Real.log ZT)) := fun c => by
    rw [Real.exp_sub, Real.exp_log hT]; ring
  rw [Finset.sum_congr rfl fun c _ => hterm c, Finset.sum_add_distrib, ← Finset.sum_mul, ← Finset.sum_mul, ← hZT,
    ← mul_assoc, mul_inv_cancel₀ hT.ne']
  ring

/-- The identity of one pixel for extended-real logits that are all finite. -/
theorem sum_refPix (s t : Fin 14 → EReal) (hs : ∀ c, s c ≠ ⊥ ∧ s c ≠ ⊤) (ht : ∀ c, t c ≠ ⊥ ∧ t c ≠ ⊤) :
    ∑ c, refPix s t c = klPix s t := by
  have es : s = fun c => ((s c).toReal : EReal) := funext fun c => (EReal.coe_toReal (hs c).2 (hs c).1).symm
  have et : t = fun c => ((t c).toReal : EReal) := funext fun c => (EReal.coe_toReal (ht c).2 (ht c).1).symm
  rw [es, et]
  exact sum_refPix_real _ _

end Cert.Spec

end
-- ==== Proof.RefTerm.lean ====
/- The reference's result, written as a few named arrays: the log-softmax, the divergence of every class and pixel, the
   boundary mask of every class, and the scalar the program returns. -/
module

public import proofs.«01_k».proof.Proof.Gen.ReferenceIdeal.Run
public import proofs.«01_k».proof.Proof.Pixel
public import Idealize.ShloMosaic.Lib.Pipeline.ValueKit

@[expose] public section

set_option maxRecDepth 16384

noncomputable section

namespace Cert.RefTerm

open Cert.ReferenceIdeal Cert.ReferenceIdeal.Gen Idealize.ShloMosaic Idealize.ShloMosaic.TcCoe Idealize.SL.Sem

/-- The logits over the temperature, which is one. -/
def scaled (x : FVec Ideal S4x14x384x384 .f32) : FVec Ideal S4x14x384x384 .f32 :=
  Host.divf x (broadcastInDim S4x14x384x384 ![] bcast_S_S4x14x384x384 (constant S_ .f32 0x3F800000#32))

/-- The scaled logits less the largest of their pixel. -/
def shifted (x : FVec Ideal S4x14x384x384 .f32) : FVec Ideal S4x14x384x384 .f32 :=
  subf (scaled x) (broadcastInDim S4x14x384x384 ![0, 1, 2, 3] bcast_S4x1x384x384_S4x14x384x384_0_1_2_3
    (broadcastInDim S4x1x384x384 ![0, 2, 3] bcast_S4x384x384_S4x1x384x384_0_2_3
      (maximumf (broadcastInDim S4x384x384 ![] bcast_S_S4x384x384 (constant S_ .f32 0xFF800000#32))
        (Host.reduce FloatOps.maximumf (scaled x) (constant S_ .f32 0xFF800000#32)
          reducesTo_S4x14x384x384_S4x384x384_d1 h_S_))))

/-- The log-softmax over the classes. -/
def logSm (x : FVec Ideal S4x14x384x384 .f32) : FVec Ideal S4x14x384x384 .f32 :=
  subf (shifted x) (broadcastInDim S4x14x384x384 ![0, 1, 2, 3] bcast_S4x1x384x384_S4x14x384x384_0_1_2_3
    (Host.log (broadcastInDim S4x1x384x384 ![0, 2, 3] bcast_S4x384x384_S4x1x384x384_0_2_3
      (Host.reduceAdd (Host.exp (shifted x)) (constant S_ .f32 0x00000000#32)
        reducesTo_S4x14x384x384_S4x384x384_d1 h_S_))))

/-- The divergence of every class and pixel. -/
def kl (s t : FVec Ideal S4x14x384x384 .f32) : FVec Ideal S4x14x384x384 .f32 :=
  mulf (Host.exp (logSm t)) (subf (logSm t) (logSm s))

/-- The mask of each class from 1 to 13: the pixels that carry its label. -/
def classMask (g : IVec S4x1x384x384 32) : IVec S4x13x384x384 1 :=
  cmpi .eq (broadcastInDim S4x13x384x384 ![0, 1, 2, 3] bcast_S4x1x384x384_S4x13x384x384_0_1_2_3 g)
    (broadcastInDim S4x13x384x384 ![0, 1, 2, 3] bcast_S1x13x1x1_S4x13x384x384_0_1_2_3
      (shapeCast S1x13x1x1 (addi (broadcastInDim S13 ![] bcast_S_S13 (constantI S_ 32 1#32)) (iotaInDim S13 32 0))
        shapeCasts_S13_S1x13x1x1))

/-- The mask with one more row and column of zeros on every side. -/
def framed (k : IVec S4x13x384x384 1) : IVec S4x13x386x386 1 :=
  pad S4x13x386x386 ![0, 0, 1, 1] ![0, 0, 1, 1] ![0, 0, 0, 0] k (constantI S_ 1 0#1)
    pads_S4x13x384x384_S4x13x386x386_000_000_110_110 h_S_

/-- The boundary of a mask: the mask with its erosion taken out. -/
def boundary (k : IVec S4x13x384x384 1) : IVec S4x13x384x384 1 :=
  xori (andi (andi (andi (andi
    (extractStridedSlice S4x13x384x384 ![0, 0, 1, 1] (framed k) slices_S4x13x386x386_S4x13x384x384_0_0_1_1)
    (extractStridedSlice S4x13x384x384 ![0, 0, 0, 1] (framed k) slices_S4x13x386x386_S4x13x384x384_0_0_0_1))
    (extractStridedSlice S4x13x384x384 ![0, 0, 2, 1] (framed k) slices_S4x13x386x386_S4x13x384x384_0_0_2_1))
    (extractStridedSlice S4x13x384x384 ![0, 0, 1, 0] (framed k) slices_S4x13x386x386_S4x13x384x384_0_0_1_0))
    (extractStridedSlice S4x13x384x384 ![0, 0, 1, 2] (framed k) slices_S4x13x386x386_S4x13x384x384_0_0_1_2)) k

/-- The sum of the boundary pixels' indices, per batch and class. -/
def indexSum (b : IVec S4x13x384x384 1) : IVec S4x13 32 :=
  Host.reduce IntOp.addi (select b
    (broadcastInDim S4x13x384x384 ![2, 3] bcast_S384x384_S4x13x384x384_2_3
      (shapeCast S384x384 (iotaInDim S147456 32 0) shapeCasts_S147456_S384x384))
    (broadcastInDim S4x13x384x384 ![] bcast_S_S4x13x384x384 (id (constantI S_ 32 0#32))))
    (constantI S_ 32 0#32) reducesTo_S4x13x384x384_S4x13_d2_3 h_S_

/-- The number of boundary pixels, per batch and class. -/
def pixels (b : IVec S4x13x384x384 1) : IVec S4x13 32 :=
  Host.reduce IntOp.addi (extui 32 b natLt_1_32) (constantI S_ 32 0#32) reducesTo_S4x13x384x384_S4x13_d2_3 h_S_

/-- The number of averaged terms, at least one, per batch and class. -/
def terms (b : IVec S4x13x384x384 1) : FVec Ideal S4x13 .f32 :=
  sitofp .f32 (maxsi (muli (pixels b) (broadcastInDim S4x13 ![] bcast_S_S4x13 (constantI S_ 32 14#32)))
    (broadcastInDim S4x13 ![] bcast_S_S4x13 (constantI S_ 32 1#32)))

/-- The divergence summed over the classes and the boundary pixels, per batch and class of the boundary. -/
def maskedSum (d : FVec Ideal S4x14x384x384 .f32) (b : IVec S4x13x384x384 1) : FVec Ideal S4x13 .f32 :=
  Host.reduceAdd (mulf
    (broadcastInDim S4x14x13x384x384 ![0, 1, 2, 3, 4] bcast_S4x14x1x384x384_S4x14x13x384x384_0_1_2_3_4
      (broadcastInDim S4x14x1x384x384 ![0, 1, 3, 4] bcast_S4x14x384x384_S4x14x1x384x384_0_1_3_4 d))
    (broadcastInDim S4x14x13x384x384 ![0, 1, 2, 3, 4] bcast_S4x1x13x384x384_S4x14x13x384x384_0_1_2_3_4
      (broadcastInDim S4x1x13x384x384 ![0, 2, 3, 4] bcast_S4x13x384x384_S4x1x13x384x384_0_2_3_4 (uitofp .f32 b))))
    (constant S_ .f32 0x00000000#32) reducesTo_S4x14x13x384x384_S4x13_d1_3_4 h_S_

/-- The loss from the divergence and the boundary masks. -/
def loss (d : FVec Ideal S4x14x384x384 .f32) (b : IVec S4x13x384x384 1) : FVec Ideal S_ .f32 :=
  mulf (constant S_ .f32 0x3F800000#32) (Host.reduceAdd (select
    (cmpi .sgt (indexSum b) (broadcastInDim S4x13 ![] bcast_S_S4x13 (constantI S_ 32 0#32)))
    (mulf (Host.divf (maskedSum d b) (terms b)) (broadcastInDim S4x13 ![] bcast_S_S4x13 (constant S_ .f32 0x3F800000#32)))
    (broadcastInDim S4x13 ![] bcast_S_S4x13 (id (constant S_ .f32 0x00000000#32))))
    (constant S_ .f32 0x00000000#32) reducesTo_S4x13_S_d0_1 h_S_)

set_option maxHeartbeats 4000000 in
/-- What the reference returns, by the named arrays. -/
theorem res_eq (m : (ℓ : Loc nD τ sig) → Buf (Elt Ideal) ℓ) (c : Dev nD) :
    Value.res_out0 (F := Ideal) m c
      = loss (kl (m ((c.tc : Thread nD τ).loc main_arg0)) (m ((c.tc : Thread nD τ).loc main_arg1)))
          (boundary (classMask (m ((c.tc : Thread nD τ).loc main_arg2)))) := by
  show Value.res_main_v52 (F := Ideal) m c = _
  unfold Value.res_main_v52
  rfl

end Cert.RefTerm

end
-- ==== Proof.RefKl.lean ====
/- The reference's log-softmax and its divergence, at a pixel. -/
module

public import proofs.«01_k».proof.Proof.RefTerm

@[expose] public section

set_option maxRecDepth 16384

noncomputable section

namespace Cert.RefTerm

open Cert.ReferenceIdeal Cert.ReferenceIdeal.Gen Cert.Spec Idealize.ShloMosaic Idealize.ShloMosaic.TcCoe Idealize.SL.Sem

/-- A value over one is the value. -/
theorem div_one (x : EReal) : Ideal.div x 1 = x := by
  simp [Ideal.div]

/-- The word of minus infinity. -/
theorem ofBits_bot : Ideal.ofBits .f32 0xFF800000#32 = (⊥ : EReal) := by
  simp [Ideal.ofBits, Ideal.ieee]

/-- The logits over the temperature are the logits. -/
theorem scaled_eq (x : FVec Ideal S4x14x384x384 .f32) : scaled x = x := by
  funext j
  show Ideal.div (x j) (Ideal.ofBits .f32 0x3F800000#32) = x j
  rw [Ideal.ofBits_one_f32, div_one]

/-- A pixel's maximum over the classes, from any start. -/
theorem maxClasses_at (x : FVec Ideal S4x14x384x384 .f32) (z : S_.Idx → EReal) (b : Fin 4) (h w : Fin 384) :
    Host.reduce (FloatOps.maximumf (F := Ideal) (φ := .f32)) x z reducesTo_S4x14x384x384_S4x384x384_d1 h_S_ (ix3 b h w)
      = Finset.univ.fold max (z (Shape.Idx.first h_S_)) fun c => x (ix4 b c h w) := by
  have e := Host.reduce_eq_fold (α := EReal) max x z reducesTo_S4x14x384x384_S4x384x384_d1 h_S_ (ix3 b h w)
  rw [Shape.ReducesTo.fold_fiber_r4_a1] at e
  exact e

/-- The array less its pixel's maximum, for any array of maxima. -/
theorem less_at (x : FVec Ideal S4x14x384x384 .f32) (r : FVec Ideal S4x384x384 .f32) (b : Fin 4) (c : Fin 14)
    (h w : Fin 384) :
    subf x (broadcastInDim S4x14x384x384 ![0, 1, 2, 3] bcast_S4x1x384x384_S4x14x384x384_0_1_2_3
      (broadcastInDim S4x1x384x384 ![0, 2, 3] bcast_S4x384x384_S4x1x384x384_0_2_3 r)) (ix4 b c h w)
      = x (ix4 b c h w) - r (ix3 b h w) := by
  pointwise

/-- The scaled logits less their pixel's maximum. -/
theorem shifted_at (x : FVec Ideal S4x14x384x384 .f32) (b : Fin 4) (c : Fin 14) (h w : Fin 384) :
    shifted x (ix4 b c h w) = x (ix4 b c h w) - shift fun c => x (ix4 b c h w) := by
  unfold shifted
  rw [scaled_eq, less_at, ValueIdx.maximumf_apply, maxClasses_at]
  unfold shift
  rw [← ofBits_bot]
  rfl

/-- The log-softmax at a pixel. -/
theorem logSm_at (x : FVec Ideal S4x14x384x384 .f32) (b : Fin 4) (c : Fin 14) (h w : Fin 384) :
    logSm x (ix4 b c h w) = logSoft (fun c => x (ix4 b c h w)) c := by
  unfold logSm
  generalize hy : shifted x = y
  pointwise
  subst hy
  simp only [shifted_at]
  rfl

/-- The divergence of a class at a pixel. -/
theorem kl_at (s t : FVec Ideal S4x14x384x384 .f32) (b : Fin 4) (c : Fin 14) (h w : Fin 384) :
    kl s t (ix4 b c h w) = refPix (fun c => s (ix4 b c h w)) (fun c => t (ix4 b c h w)) c := by
  unfold kl
  generalize hy : logSm s = y, hz : logSm t = z
  pointwise
  subst hy hz
  simp only [logSm_at]
  rfl

end Cert.RefTerm

end
-- ==== Proof.Spec.lean ====
/- What the program computes from a batch's labels and divergence: the boundary pixels of every class, their number, the
   sum of their positions, the divergence summed over them, and the batch's loss. -/
module

public import proofs.«01_k».proof.Proof.Pixel
public import Idealize.ShloMosaic.Lib.Pipeline.ValueKit
public import Mathlib.Data.BitVec

@[expose] public section

noncomputable section

namespace Cert.Spec

open Idealize.ShloMosaic

/-- The labels of one image. -/
abbrev Labels : Type := Fin 384 → Fin 384 → BitVec 32

/-- A pixel whose four neighbours are in the image and carry the class. -/
def inner (g : Labels) (q : BitVec 32) (h w : Fin 384) : Prop :=
  (∃ _ : 1 ≤ h.val, g ⟨h.val - 1, by omega⟩ w = q) ∧ (∃ p : h.val + 1 < 384, g ⟨h.val + 1, p⟩ w = q)
    ∧ (∃ _ : 1 ≤ w.val, g h ⟨w.val - 1, by omega⟩ = q) ∧ (∃ p : w.val + 1 < 384, g h ⟨w.val + 1, p⟩ = q)

open Classical in
/-- The boundary of a class: one at its pixels that are not inner ones. -/
def mark (g : Labels) (q : BitVec 32) (h w : Fin 384) : BitVec 1 :=
  if g h w = q ∧ ¬ inner g q h w then 1#1 else 0#1

/-- The number of boundary pixels of a class. -/
def markCount (g : Labels) (q : BitVec 32) : ℕ :=
  (Finset.univ.filter fun p : Fin 384 × Fin 384 => mark g q p.1 p.2 = 1#1).card

/-- The divergence summed over the boundary pixels of a class. -/
def markSum (g : Labels) (q : BitVec 32) (ks : Fin 384 → Fin 384 → EReal) : EReal :=
  ∑ p : Fin 384 × Fin 384, if mark g q p.1 p.2 = 1#1 then ks p.1 p.2 else 0

/-- The positions of the boundary pixels of a class, summed as words. -/
def markIndex (g : Labels) (q : BitVec 32) : BitVec 32 :=
  ∑ p : Fin 384 × Fin 384, if mark g q p.1 p.2 = 1#1 then BitVec.ofNat 32 (p.1.val * 384 + p.2.val) else 0#32

/-- The number of averaged terms of a class, at least one. -/
def markTerms (g : Labels) (q : BitVec 32) : EReal := (((max (markCount g q * 14) 1 : ℕ) : ℝ) : EReal)

/-- A class's share of the loss. -/
def part (g : Labels) (ks : Fin 384 → Fin 384 → EReal) (q : BitVec 32) : EReal :=
  if (0#32).slt (markIndex g q) then Ideal.div (markSum g q ks) (markTerms g q) else 0

/-- A batch's loss: the classes from 1 to 13. -/
def batch (g : Labels) (ks : Fin 384 → Fin 384 → EReal) : EReal :=
  ∑ k : Fin 13, part g ks (BitVec.ofNat 32 (k.val + 1))

/-- The words' fold with addition is their sum. -/
theorem fold_addi {ι : Type} (A : Finset ι) (f : ι → BitVec 32) : A.fold IntOp.addi 0#32 f = ∑ i ∈ A, f i := by
  classical
  induction A using Finset.induction_on with
  | empty => rfl
  | insert a A ha ih => rw [Finset.fold_insert ha, Finset.sum_insert ha, ih]; rfl

/-- A test of equality, as a bit. -/
theorem cmpi_eq (x y : BitVec 32) : IntOp.cmpi .eq x y = if x = y then 1#1 else 0#1 := by
  by_cases e : x = y
  · simp [IntOp.cmpi, e]
  · simp [IntOp.cmpi, e, beq_false_of_ne e]

/-- A test of inequality, as a bit. -/
theorem cmpi_ne (x y : BitVec 32) : IntOp.cmpi .ne x y = if x = y then 0#1 else 1#1 := by
  by_cases e : x = y
  · simp [IntOp.cmpi, e]
  · simp [IntOp.cmpi, e, bne_iff_ne.2 e]

/-- A test of equality of two small numbers, as a bit. -/
theorem cmpi_eq_ofNat (a b : ℕ) (ha : a < 2 ^ 32) (hb : b < 2 ^ 32) :
    IntOp.cmpi .eq (BitVec.ofNat 32 a) (BitVec.ofNat 32 b) = if a = b then 1#1 else 0#1 := by
  rw [cmpi_eq]
  refine if_congr ⟨fun e => ?_, fun e => by rw [e]⟩ rfl rfl
  have := congrArg BitVec.toNat e
  rwa [BitVec.toNat_ofNat, BitVec.toNat_ofNat, Nat.mod_eq_of_lt ha, Nat.mod_eq_of_lt hb] at this

/-- A bit picks between two values. -/
theorem select_bit {α : Type} (c : BitVec 1) (a b : α) : Scalar.select c a b = if c = 1#1 then a else b := rfl

/-- The difference of a mask and its erosion, from the tests of the pixel and its four neighbours. -/
theorem mark_of_tests (g : Labels) (q : BitVec 32) (h w : Fin 384) (u d l r : BitVec 1)
    (hu : u = 1#1 ↔ ∃ _ : 1 ≤ h.val, g ⟨h.val - 1, by omega⟩ w = q)
    (hd : d = 1#1 ↔ ∃ p : h.val + 1 < 384, g ⟨h.val + 1, p⟩ w = q)
    (hl : l = 1#1 ↔ ∃ _ : 1 ≤ w.val, g h ⟨w.val - 1, by omega⟩ = q)
    (hr : r = 1#1 ↔ ∃ p : w.val + 1 < 384, g h ⟨w.val + 1, p⟩ = q) :
    IntOp.xori (IntOp.andi (IntOp.andi (IntOp.andi (IntOp.andi (IntOp.cmpi .eq (g h w) q) u) d) l) r)
      (IntOp.cmpi .eq (g h w) q) = mark g q h w := by
  unfold mark inner
  rw [← hu, ← hd, ← hl, ← hr, cmpi_eq]
  by_cases e : g h w = q
  · simp only [e, if_true, true_and]
    rcases BitVec.eq_zero_or_eq_one u with rfl | rfl <;> rcases BitVec.eq_zero_or_eq_one d with rfl | rfl <;>
      rcases BitVec.eq_zero_or_eq_one l with rfl | rfl <;> rcases BitVec.eq_zero_or_eq_one r with rfl | rfl <;>
      simp [IntOp.xori, IntOp.andi]
  · simp [e, IntOp.xori, IntOp.andi]

/-- The labels kept where one of the four neighbours differs, and minus one elsewhere, tested against a class: the
    neighbours outside the image are minus one. -/
theorem mark_of_labels (g : Labels) (q : BitVec 32) (h w : Fin 384) (u d l r : BitVec 32) (hq : q ≠ 4294967295#32)
    (hu : u = if _ : 1 ≤ h.val then g ⟨h.val - 1, by omega⟩ w else 4294967295#32)
    (hd : d = if p : h.val + 1 < 384 then g ⟨h.val + 1, p⟩ w else 4294967295#32)
    (hl : l = if _ : 1 ≤ w.val then g h ⟨w.val - 1, by omega⟩ else 4294967295#32)
    (hr : r = if p : w.val + 1 < 384 then g h ⟨w.val + 1, p⟩ else 4294967295#32) :
    IntOp.cmpi .eq (Scalar.select (IntOp.ori (IntOp.ori (IntOp.ori (IntOp.cmpi .ne u (g h w)) (IntOp.cmpi .ne d (g h w)))
      (IntOp.cmpi .ne l (g h w))) (IntOp.cmpi .ne r (g h w))) (g h w) 4294967295#32) q = mark g q h w := by
  have side : ∀ (P : Prop) [Decidable P] (f : P → BitVec 32) (x : BitVec 32),
      (x = if p : P then f p else 4294967295#32) → ((∃ p : P, f p = q) ↔ x = q) := by
    intro P _ f x hx
    subst hx
    by_cases p : P <;> simp [p, hq.symm]
  unfold mark inner
  rw [side _ (fun _ => _) u hu, side _ (fun p => g ⟨h.val + 1, p⟩ w) d hd, side _ (fun _ => _) l hl,
    side _ (fun p => g h ⟨w.val + 1, p⟩) r hr]
  by_cases e : g h w = q
  · simp only [cmpi_ne, cmpi_eq, select_bit]
    rw [e]
    by_cases a : u = q <;> by_cases b : d = q <;> by_cases c : l = q <;> by_cases f : r = q <;>
      simp [a, b, c, f, IntOp.ori, hq.symm]
  · have other : ∀ c : BitVec 1, Scalar.select c (g h w) 4294967295#32 ≠ q := by
      intro c
      rw [select_bit]
      split_ifs
      · exact e
      · exact hq.symm
    rw [cmpi_eq, if_neg (other _), if_neg (fun x => e x.1)]

end Cert.Spec

end
-- ==== Proof.RefValue.lean ====
/- The reference's boundary masks, counts and sums, and its loss, at an index. -/
module

public import proofs.«01_k».proof.Proof.RefKl
public import proofs.«01_k».proof.Proof.Spec
public import Idealize.ShloMosaic.Lib.IndicatorCount

@[expose] public section

set_option maxRecDepth 16384

noncomputable section

namespace Cert.RefTerm

open Cert.ReferenceIdeal Cert.ReferenceIdeal.Gen Cert.Spec Idealize.ShloMosaic Idealize.ShloMosaic.TcCoe Idealize.SL.Sem

/-- The labels of a batch. -/
def labels (g : IVec S4x1x384x384 32) (b : Fin 4) : Spec.Labels := fun h w => g (ix4 b 0 h w)

/-- A test in the frame of zeros is one where the pixel is in the image and passes. -/
theorem framed_test (P Q : Prop) [Decidable P] (hPQ : P ↔ Q) (f : P → BitVec 32) (q : BitVec 32) (g : Q → BitVec 32)
    (hfg : ∀ p p', f p = g p') : (if p : P then IntOp.cmpi .eq (f p) q else 0#1) = 1#1 ↔ ∃ p : Q, g p = q := by
  by_cases p : P
  · rw [dif_pos p, cmpi_eq, hfg p (hPQ.1 p)]
    by_cases e : g (hPQ.1 p) = q
    · rw [if_pos e]
      exact ⟨fun _ => ⟨hPQ.1 p, e⟩, fun _ => rfl⟩
    · rw [if_neg e]
      exact ⟨fun x => absurd x (by decide), fun ⟨_, x⟩ => absurd x e⟩
  · rw [dif_neg p]
    exact ⟨fun x => absurd x (by decide), fun ⟨x, _⟩ => absurd (hPQ.2 x) p⟩

/-- The reference's boundary masks. -/
theorem boundary_at (g : IVec S4x1x384x384 32) (b : Fin 4) (k : Fin 13) (h w : Fin 384) :
    boundary (classMask g) (ix4 b k h w) = mark (labels g b) (BitVec.ofNat 32 (k.val + 1)) h w := by
  unfold boundary framed classMask
  pointwise
  have hq : IntOp.addi 1#32 (BitVec.ofNat 32 k.val) = BitVec.ofNat 32 (k.val + 1) := by
    rw [Nat.add_comm, BitVec.ofNat_add]; rfl
  rw [hq]
  refine mark_of_tests (labels g b) _ h w _ _ _ _ ?_ ?_ ?_ ?_
  · exact framed_test _ _ (by omega) _ _ _ fun _ _ => rfl
  · exact framed_test _ _ (by omega) _ _ _ fun _ _ =>
      congrArg (fun k => g (ix4 b 0 k w)) (Fin.ext (by show 2 + h.val - 1 = h.val + 1; omega))
  · exact framed_test _ _ (by omega) _ _ _ fun _ _ => rfl
  · exact framed_test _ _ (by omega) _ _ _ fun _ _ =>
      congrArg (fun k => g (ix4 b 0 h k)) (Fin.ext (by show 2 + w.val - 1 = w.val + 1; omega))

/-- The sums of positions. -/
theorem indexSum_at (B : IVec S4x13x384x384 1) (b : Fin 4) (k : Fin 13) :
    indexSum B (ix2 b k) = ∑ p : Fin 384 × Fin 384,
      if B (ix4 b k p.1 p.2) = 1#1 then BitVec.ofNat 32 (p.1.val * 384 + p.2.val) else 0#32 := by
  unfold indexSum
  pointwise
  rw [fold_addi]
  rfl

/-- The numbers of averaged terms. -/
theorem terms_at (B : IVec S4x13x384x384 1) (b : Fin 4) (k : Fin 13) :
    terms B (ix2 b k) = (((max ((Finset.univ.filter fun p : Fin 384 × Fin 384 =>
      B (ix4 b k p.1 p.2) = 1#1).card * 14) 1 : ℕ) : ℝ) : EReal) := by
  unfold terms pixels
  pointwise
  rw [IndicatorCount.fold_addi_setWidth_eq_card]
  have hN : (Finset.univ.filter fun p : Fin 384 × Fin 384 => B (ix4 b k p.1 p.2) = 1#1).card ≤ 147456 := by
    refine (Finset.card_filter_le _ _).trans ?_
    simp
  generalize (Finset.univ.filter fun p : Fin 384 × Fin 384 => B (ix4 b k p.1 p.2) = 1#1).card = N at hN
  have hm : IntOp.muli (BitVec.ofNat 32 N) 14#32 = BitVec.ofNat 32 (N * 14) := (BitVec.ofNat_mul _ _).symm
  have small : ∀ a : ℕ, a ≤ 2064384 → (BitVec.ofNat 32 a).toInt = a := by
    intro a ha
    rw [BitVec.toInt_eq_toNat_cond, BitVec.toNat_ofNat, Nat.mod_eq_of_lt (by omega), if_pos (by omega)]
  show (((IntOp.maxsi _ 1#32).toInt : ℝ) : EReal) = _
  have h1 : (1#32).toInt = 1 := by decide
  rw [hm]
  unfold IntOp.maxsi BitVec.slt
  rw [small (N * 14) (by omega), h1]
  by_cases e : N = 0
  · subst e; simp
  · rw [if_pos (by simp; omega), small _ (by omega), max_eq_left (by omega)]
    simp

/-- The scalar from the three arrays of sums. -/
theorem total_at (I : IVec S4x13 32) (M T : FVec Ideal S4x13 .f32) (i : S_.Idx) :
    mulf (constant S_ .f32 0x3F800000#32) (Host.reduceAdd (select
    (cmpi .sgt I (broadcastInDim S4x13 ![] bcast_S_S4x13 (constantI S_ 32 0#32)))
    (mulf (Host.divf M T) (broadcastInDim S4x13 ![] bcast_S_S4x13 (constant S_ .f32 0x3F800000#32)))
    (broadcastInDim S4x13 ![] bcast_S_S4x13 (id (constant S_ .f32 0x00000000#32))))
    (constant S_ .f32 0x00000000#32) reducesTo_S4x13_S_d0_1 h_S_) i
      = ∑ b : Fin 4, ∑ k : Fin 13, if (0#32).slt (I (ix2 b k)) then Ideal.div (M (ix2 b k)) (T (ix2 b k)) else 0 := by
  pointwise
  refine Finset.sum_congr rfl fun b _ => Finset.sum_congr rfl fun k _ => ?_
  have hz : (id (constant (F := Ideal) S_ .f32 0x00000000#32) : FVec Ideal S_ .f32) ix0 = 0 := Ideal.ofBits_zero_f32
  rw [hz, select_bit]
  by_cases e : (0#32).slt (I (ix2 b k)) <;> simp [IntOp.cmpi, e]

end Cert.RefTerm

end
-- ==== Proof.RefSum.lean ====
/- The reference's result: the batches' losses, at logits that are real numbers. -/
module

public import proofs.«01_k».proof.Proof.RefValue

@[expose] public section

set_option maxRecDepth 16384

noncomputable section

namespace Cert.RefTerm

open Cert.ReferenceIdeal Cert.ReferenceIdeal.Gen Cert.Spec Idealize.ShloMosaic Idealize.ShloMosaic.TcCoe Idealize.SL.Sem

/-- The sum over the classes of the divergence and over the pixels, at a batch and a class of the boundary. -/
theorem sumPixels_at (x : FVec Ideal S4x14x13x384x384 .f32) (b : Fin 4) (k : Fin 13) :
    Host.reduceAdd x (constant S_ .f32 0x00000000#32) reducesTo_S4x14x13x384x384_S4x13_d1_3_4 h_S_ (ix2 b k)
      = ∑ p : (Fin 384 × Fin 384) × Fin 14, x (ix5 b p.2 k p.1.1 p.1.2) := by
  have hz : (constant (F := Ideal) S_ .f32 0x00000000#32 (Shape.Idx.first h_S_) : EReal) = 0 := Ideal.ofBits_zero_f32
  show Ideal.hostReduceAdd reducesTo_S4x14x13x384x384_S4x13_d1_3_4 x _ (ix2 b k) = _
  unfold Ideal.hostReduceAdd
  rw [hz, zero_add]
  refine Finset.sum_filter_eq_sum_of_fiber _
    (fun p : (Fin 384 × Fin 384) × Fin 14 => (ix5 b p.2 k p.1.1 p.1.2 : S4x14x13x384x384.Idx)) ?_ ?_ x
  · intro p p' e
    exact Prod.ext (Prod.ext (congrFun e 3) (congrFun e 4)) (congrFun e 1)
  · intro i
    constructor
    · intro e
      refine ⟨((i 3, i 4), i 1), ?_⟩
      funext a
      apply Fin.ext
      match a with
      | ⟨0, _⟩ => exact (congrArg Fin.val (congrFun e 0)).symm
      | ⟨1, _⟩ => rfl
      | ⟨2, _⟩ => exact (congrArg Fin.val (congrFun e 1)).symm
      | ⟨3, _⟩ => rfl
      | ⟨4, _⟩ => rfl
    · rintro ⟨p, rfl⟩
      funext a
      apply Fin.ext
      match a with
      | ⟨0, _⟩ => rfl
      | ⟨1, _⟩ => rfl

/-- A bit as a number. -/
theorem uitofp_bit (b : BitVec 1) : (FloatOps.uitofp .f32 b : Ideal .f32) = if b = 1#1 then (1 : EReal) else 0 := by
  show ((b.toNat : ℝ) : EReal) = _
  rcases BitVec.eq_zero_or_eq_one b with rfl | rfl <;> simp

/-- The weighted divergence at an index. -/
theorem weighted_at (d : FVec Ideal S4x14x384x384 .f32) (B : IVec S4x13x384x384 1) (b : Fin 4) (c : Fin 14) (k : Fin 13)
    (h w : Fin 384) : mulf
    (broadcastInDim S4x14x13x384x384 ![0, 1, 2, 3, 4] bcast_S4x14x1x384x384_S4x14x13x384x384_0_1_2_3_4
      (broadcastInDim S4x14x1x384x384 ![0, 1, 3, 4] bcast_S4x14x384x384_S4x14x1x384x384_0_1_3_4 d))
    (broadcastInDim S4x14x13x384x384 ![0, 1, 2, 3, 4] bcast_S4x1x13x384x384_S4x14x13x384x384_0_1_2_3_4
      (broadcastInDim S4x1x13x384x384 ![0, 2, 3, 4] bcast_S4x13x384x384_S4x1x13x384x384_0_2_3_4 (uitofp .f32 B)))
    (ix5 b c k h w) = if B (ix4 b k h w) = 1#1 then d (ix4 b c h w) else 0 := by
  pointwise
  rw [uitofp_bit]
  show d (ix4 b c h w) * (_ : EReal) = _
  split_ifs
  · exact mul_one (d (ix4 b c h w) : EReal)
  · exact mul_zero (d (ix4 b c h w) : EReal)

/-- The masked sums. -/
theorem maskedSum_at (d : FVec Ideal S4x14x384x384 .f32) (B : IVec S4x13x384x384 1) (b : Fin 4) (k : Fin 13) :
    maskedSum d B (ix2 b k) = ∑ p : Fin 384 × Fin 384,
      if B (ix4 b k p.1 p.2) = 1#1 then ∑ c : Fin 14, (d (ix4 b c p.1 p.2) : EReal) else 0 := by
  unfold maskedSum
  rw [sumPixels_at, Fintype.sum_prod_type]
  refine Finset.sum_congr rfl fun p _ => ?_
  refine (Finset.sum_congr rfl fun c _ => weighted_at d B b c k p.1 p.2).trans ?_
  split_ifs
  · rfl
  · exact Finset.sum_const_zero

/-- The reference's result: the batches' losses, at logits that are real numbers. -/
theorem loss_eq (s t : FVec Ideal S4x14x384x384 .f32) (g : IVec S4x1x384x384 32)
    (hs : ∀ i, s i ≠ (⊥ : EReal) ∧ s i ≠ (⊤ : EReal)) (ht : ∀ i, t i ≠ (⊥ : EReal) ∧ t i ≠ (⊤ : EReal)) (i : S_.Idx) :
    loss (kl s t) (boundary (classMask g)) i
      = ∑ b : Fin 4, batch (labels g b) fun h w => klPix (fun c => s (ix4 b c h w)) (fun c => t (ix4 b c h w)) := by
  unfold loss
  rw [total_at]
  refine Finset.sum_congr rfl fun b _ => ?_
  unfold batch
  refine Finset.sum_congr rfl fun k _ => ?_
  rw [indexSum_at, maskedSum_at, terms_at]
  unfold part markIndex markSum markTerms markCount
  simp only [boundary_at, kl_at, sum_refPix _ _ (fun c => hs (ix4 b c _ _)) (fun c => ht (ix4 b c _ _))]

end Cert.RefTerm

end
-- ==== Proof.Body.lean ====
/- One grid point of the kernel as a few named vector expressions: the divergence of eight rows, the rows of the three
   accumulators, and the amount a point adds to the loss. Each run's stores are these. -/
module

public import proofs.«01_k».proof.Proof.Gen.KernelIdeal.Frame

@[expose] public section

set_option maxRecDepth 65536

noncomputable section

namespace Cert.Body

open Cert.KernelIdeal Cert.KernelIdeal.Gen Idealize.ShloMosaic

variable {F : FTy → Type} [FloatOps F]

/-- Eight rows of one class's logits, times the temperature's inverse, which is one. -/
def scaled (x : Vec F S1x1x8x384 .f32) : FVec F S8x384 .f32 :=
  mulf (shapeCast S8x384 x shapeCasts_S1x1x8x384_S8x384) (broadcast S8x384 (Scalar.ofBits .f32 0x3F800000#32))

/-- Fourteen vectors added from the first to the last. -/
def chain (f : Fin 14 → FVec F S8x384 .f32) : FVec F S8x384 .f32 :=
  addf (addf (addf (addf (addf (addf (addf (addf (addf (addf (addf (addf (addf (f 0) (f 1)) (f 2)) (f 3)) (f 4)) (f 5))
    (f 6)) (f 7)) (f 8)) (f 9)) (f 10)) (f 11)) (f 12)) (f 13)

/-- The inverse of the teacher's sum of exponentials. -/
def invZ (T : Fin 14 → Vec F S1x1x8x384 .f32) : FVec F S8x384 .f32 :=
  divf (broadcast S8x384 (Scalar.ofBits .f32 0x3F800000#32)) (chain fun ch => exp (scaled (T ch)))

/-- The divergence, summed over the classes, of eight rows: `S` and `T` are the student's and the teacher's logits. -/
def slice (S T : Fin 14 → Vec F S1x1x8x384 .f32) : FVec F S8x384 .f32 :=
  shapeCast S8x384
    (addf (mulf (chain fun ch => mulf (exp (scaled (T ch))) (subf (scaled (T ch)) (scaled (S ch)))) (invZ T))
      (log (mulf (chain fun ch => exp (scaled (S ch))) (invZ T)))) shapeCasts_S8x384_S8x384

/-- The forty-eight stores of the divergence, the last first: `f k` is what rows `8 k` to `8 k + 7` are given. -/
def slicePieces (f : Fin 48 → FVec F S8x384 .f32) : List (View.Piece (Elt F) S384x384 .f32) :=
  List.ofFn fun k : Fin 48 => ⟨Rect.unit ![8 * (47 - k.val), 0] S8x384.size
    (fun a => by fin_cases a <;> simp <;> omega), f ⟨47 - k.val, by omega⟩⟩

/-- Row `n` of an accumulator. -/
def rowRect (n : ℕ) (h : n < 14) : Rect S16x384 :=
  Rect.unit ![n, 0] S1x384.size (fun a => by fin_cases a <;> simp <;> omega)

/-- The stores of an accumulator, the last first: it is filled with `z`, and then row `n` is replaced by `step n` of
    what it held, for `n` from one on. -/
def rowPieces {e : EltTy} (v : View sig .tc .vmem S16x384 e) (z : S16x384.Idx → Elt F e)
    (step : ℕ → (S1x384.Idx → Elt F e) → S1x384.Idx → Elt F e) :
    (n : ℕ) → n < 14 → List (View.Piece (Elt F) S16x384 e)
  | 0, _ => [⟨Rect.unit ![0, 0] S16x384.size inb_S16x384_S16x384_0_0, z⟩]
  | n + 1, h => ⟨rowRect (n + 1) h, step (n + 1) (v.readCov (rowPieces v z step n (Nat.lt_of_succ_lt h))
      (rowRect (n + 1) h).toLoadRect)⟩ :: rowPieces v z step n (Nat.lt_of_succ_lt h)

/-- What an accumulator holds after its thirteen rows, read back whole. -/
def accRead {e : EltTy} (v : View sig .tc .vmem S16x384 e) (z : S16x384.Idx → Elt F e)
    (step : ℕ → (S1x384.Idx → Elt F e) → S1x384.Idx → Elt F e) : S16x384.Idx → Elt F e :=
  v.readCov (rowPieces v z step 13 (by decide))
    (Rect.unit (s := S16x384) ![0, 0] ![16, 384] inb_S16x384_S16x384_0_0).toLoadRect

/-- The row of every pixel. -/
abbrev rowIx : IVec S384x384 32 := iota .tc S384x384 32 [0] iota_S384x384_d0_w32
/-- The column of every pixel. -/
abbrev colIx : IVec S384x384 32 := iota .tc S384x384 32 [1] iota_S384x384_d1_w32

/-- The labels of a batch where they are on a boundary, and minus one elsewhere; `up` and `dn` are the rows above and
    below the block, which the block being the whole image are not used. -/
def marked (i : grid0.Coords) (g : Vec F S1x384x384 .i32) (up dn : Vec F S1x1x384 .i32) : IVec S384x384 32 :=
  k0_pay3132 (k0_pay3127 (F := F) g) rowIx colIx (k0_pay3128 (F := F) dn)
    (k0_pay3129 (F := F) (BitVec.ofNat 32 (i 1).val) up)
    (Scalar.cmpi .eq (Scalar.addi (Scalar.muli (BitVec.ofNat 32 (i 1).val) 384#32) 384#32) 384#32) k0_pay3130

/-- Every pixel's position in the image. -/
def position (i : grid0.Coords) : IVec S384x384 32 :=
  k0_pay3131 (Scalar.muli (BitVec.ofNat 32 (i 1).val) 384#32) rowIx colIx

/-- The pixels marked with a class. -/
def isClass (gb : IVec S384x384 32) (n : ℕ) : IVec S384x384 1 := cmpi .eq gb (broadcast S384x384 (BitVec.ofNat 32 n))

/-- The row of ones that sums a column. -/
abbrev onesRow : FVec F S1x384 .f32 := broadcast S1x384 (Scalar.ofBits .f32 0x3F800000#32)

/-- A column's number of pixels of a class, added to a row. -/
def countStep (gb : IVec S384x384 32) (n : ℕ) (old : FVec F S1x384 .f32) : FVec F S1x384 .f32 :=
  shapeCast S1x384 (addf old (matmul dot_S1x384_S384x384_S1x384_1_0_0_1_n_n none (onesRow (F := F))
    (sitofp .f32 (extui 32 (isClass gb n) natLt_1_32)) (constant S1x384 .f32 0x00000000#32))) shapeCasts_S1x384_S1x384

/-- A column's sum of the divergence over the pixels of a class, added to a row. -/
def klStep (gb : IVec S384x384 32) (ks : Vec F S384x384 .f32) (n : ℕ) (old : FVec F S1x384 .f32) : FVec F S1x384 .f32 :=
  shapeCast S1x384 (addf old (matmul dot_S1x384_S384x384_S1x384_1_0_0_1_n_n none (onesRow (F := F))
    (select (isClass gb n) ks (broadcast S384x384 (Scalar.ofBits .f32 0x00000000#32)))
    (constant S1x384 .f32 0x00000000#32))) shapeCasts_S1x384_S1x384

/-- A column's sum of the positions of the pixels of a class, added to a row. -/
def indexStep (gb pos : IVec S384x384 32) (n : ℕ) (old : IVec S1x384 32) : IVec S1x384 32 :=
  shapeCast S1x384 (addi old (shapeCast S1x384 (multiReductionI .add [0] S384
    (select (isClass gb n) pos (broadcast S384x384 0#32)) 0#32 reduces_S384x384_S384 rfl) shapeCasts_S384_S1x384))
    shapeCasts_S1x384_S1x384

section Point

variable (v6 : View sig .tc .vmem S16x384 .f32) (v7 : View sig .tc .vmem S16x384 .i32)
  (v8 : View sig .tc .vmem S16x384 .f32) (v9 : View sig .tc .vmem S384x384 .f32)
  (S T : Fin 48 → Fin 14 → Vec F S1x1x8x384 .f32) (gb pos : IVec S384x384 32)

/-- The divergence of every pixel, read back after its stores. -/
def ksRead : Vec F S384x384 .f32 :=
  v9.readCov (slicePieces fun k => slice (S k) (T k))
    (Rect.unit ![0, 0] S384x384.size inb_S384x384_S384x384_0_0).toLoadRect

/-- The loss after a point, from the loss before it. -/
def pointLoss (acc : Elt F .f32) : Elt F .f32 :=
  k0_pay2 (accRead v6 k0_pay4 (countStep gb)) (accRead (F := F) (e := .i32) v7 k0_pay5 (indexStep gb pos))
    (accRead v8 k0_pay6 (klStep gb (ksRead v9 S T))) acc

end Point

end Cert.Body

end
-- ==== Proof.RunTerm.lean ====
/- What a run of the kernel's body stores, in the three kinds of grid point, in the expressions of `Body`. -/
module

public import proofs.«01_k».proof.Proof.Body

@[expose] public section

set_option maxRecDepth 65536

noncomputable section

namespace Cert.RunTerm

open Cert.KernelIdeal Cert.KernelIdeal.Gen Cert.Body Idealize.ShloMosaic Idealize.ShloMosaic.TcCoe
open Idealize.ShloMosaic.Tactic Idealize.SL.Sem

variable {F : FTy → Type} [FloatOps F]

/-- Eight rows of a class, read from a block of logits held in a buffer. -/
def rawSlice (a : Memref sig .tc .vmem S1x14x384x384 .f32) (ha : a.IsWhole) (x : Vec F S1x14x384x384 .f32)
    (k : Fin 48) (ch : Fin 14) : Vec F S1x1x8x384 .f32 :=
  View.readAt (Elt F) a.view (Rect.unit (s := S1x14x384x384) ![0, ch.val, 8 * k.val, 0] S1x1x8x384.size
    (fun d => by fin_cases d <;> simp <;> omega)).toLoadRect (ha.unread x)

/-- The marked labels, from the buffer that holds the labels. -/
def rawMarked (i : grid0.Coords) (a : Memref sig .tc .vmem S1x384x384 .i32) (ha : a.IsWhole)
    (x : Vec F S1x384x384 .i32) : IVec S384x384 32 :=
  marked (F := F) i
    (View.readAt (Elt F) a.view (Rect.unit (s := S1x384x384) (k0_off1 i) S1x384x384.size (k0_off1_inb i)).toLoadRect (ha.unread x))
    (View.readAt (Elt F) a.view (Rect.unit (s := S1x384x384) (k0_off2 i) S1x1x384.size (k0_off2_inb i)).toLoadRect (ha.unread x))
    (View.readAt (Elt F) a.view (Rect.unit (s := S1x384x384) (k0_off3 i) S1x1x384.size (k0_off3_inb i)).toLoadRect (ha.unread x))

section

variable (c : Dev nD) (i : grid0.Coords) (arg2 : Memref sig .tc .vmem S1x14x384x384 .f32) (harg2 : arg2.IsWhole)
  (arg3 : Memref sig .tc .vmem S1x14x384x384 .f32) (harg3 : arg3.IsWhole)
  (arg4 : Memref sig .tc .vmem S1x384x384 .i32) (harg4 : arg4.IsWhole)
  (arg5 : Memref sig .tc .smem S1 .f32) (harg5 : arg5.IsWhole)
  (arg6 : Memref sig .tc .vmem S16x384 .f32) (harg6 : arg6.IsWhole)
  (arg7 : Memref sig .tc .vmem S16x384 .i32) (harg7 : arg7.IsWhole)
  (arg8 : Memref sig .tc .vmem S16x384 .f32) (harg8 : arg8.IsWhole)
  (arg9 : Memref sig .tc .vmem S384x384 .f32) (harg9 : arg9.IsWhole)
  (arg10 : Memref sig .tc .smem S1 .f32) (harg10 : arg10.IsWhole)
  (x0 x1 : Vec F S1x14x384x384 .f32) (x2 : Vec F S1x384x384 .i32) (xs4 : Vec F S1 .f32)

/-- The loss a point leaves, over the buffers' contents. -/
def rawLoss (acc : Elt F .f32) : Elt F .f32 :=
  pointLoss arg6.view arg7.view arg8.view arg9.view (rawSlice arg2 harg2 x0) (rawSlice arg3 harg3 x1)
    (rawMarked i arg4 harg4 x2) (position i) acc

/-- The loss the point before left, read back. -/
def rawCarry : Elt F .f32 :=
  View.readAt (Elt F) arg10.view (Rect.unit (s := S1) ![0] ![1] inb_S1_S1_0).toLoadRect (harg10.unread xs4)
    (Shape.Idx.first (by decide))

/-- A middle point adds its amount to the loss it finds. -/
theorem run_B (hc0 : cond0_0 i) (hc1 : ¬cond0_1 i) (hc2 : cond0_2 i) (hc3 : ¬cond0_3 i) :
    (kernelRun0_B c i arg2 harg2 arg3 harg3 arg4 harg4 arg5 harg5 arg6 harg6 arg7 harg7 arg8 harg8 arg9 harg9
      arg10 harg10 hc0 hc1 hc2 hc3 x0 x1 x2 xs4).2.1
    = [⟨Rect.unit ![0] ![1] inb_S1_S1_0, fun _ => rawLoss i arg2 harg2 arg3 harg3 arg4 harg4 arg6 arg7 arg8 arg9
        x0 x1 x2 (rawCarry arg10 harg10 xs4)⟩] := by
  sl_kernel_rfl

/-- The first point adds its amount to zero. -/
theorem run_A (hc0 : cond0_0 i) (hc1 : cond0_1 i) (hc2 : cond0_2 i) (hc3 : ¬cond0_3 i) :
    (kernelRun0_A c i arg2 harg2 arg3 harg3 arg4 harg4 arg5 harg5 arg6 harg6 arg7 harg7 arg8 harg8 arg9 harg9
      arg10 harg10 hc0 hc1 hc2 hc3 x0 x1 x2).2.1
    = [⟨Rect.unit ![0] ![1] inb_S1_S1_0, fun _ => rawLoss i arg2 harg2 arg3 harg3 arg4 harg4 arg6 arg7 arg8 arg9
        x0 x1 x2 (Scalar.ofBits .f32 0x00000000#32)⟩,
      ⟨Rect.unit ![0] S1.size inb_S1_S1_0, fun _ => Scalar.ofBits .f32 0x00000000#32⟩] := by
  sl_kernel_rfl

/-- The last point's result is one times the loss it leaves. -/
theorem run_C (hc0 : cond0_0 i) (hc1 : ¬cond0_1 i) (hc2 : cond0_2 i) (hc3 : cond0_3 i) :
    (kernelRun0_C c i arg2 harg2 arg3 harg3 arg4 harg4 arg5 harg5 arg6 harg6 arg7 harg7 arg8 harg8 arg9 harg9
      arg10 harg10 hc0 hc1 hc2 hc3 x0 x1 x2 xs4).1
    = [⟨Rect.unit ![0] ![1] inb_S1_S1_0, fun _ => k0_pay3 (rawLoss i arg2 harg2 arg3 harg3 arg4 harg4 arg6 arg7
        arg8 arg9 x0 x1 x2 (rawCarry arg10 harg10 xs4))⟩] := by
  sl_kernel_rfl

end

end Cert.RunTerm

end
-- ==== Proof.KerLabels.lean ====
/- The kernel's boundary labels at a pixel. -/
module

public import proofs.«01_k».proof.Proof.Body
public import proofs.«01_k».proof.Proof.Spec
public import Idealize.ShloMosaic.Lib.Pipeline.ValueKit

@[expose] public section

set_option maxRecDepth 16384

noncomputable section

namespace Cert.Body

open Cert.KernelIdeal Cert.KernelIdeal.Gen Idealize.ShloMosaic

/-- The second grid axis has one point. -/
theorem coord_one (i : grid0.Coords) : (i 1).val = 0 := by
  have := (i 1).isLt
  change _ < 1 at this
  omega

/-- A pixel's position in the image. -/
theorem position_at (i : grid0.Coords) (h w : Fin 384) :
    position i (ix2 h w) = BitVec.ofNat 32 (h.val * 384 + w.val) := by
  unfold position k0_pay3131
  rw [coord_one i]
  pointwise
  rw [BitVec.ofNat_add, BitVec.ofNat_mul]
  simp [IntOp.addi, IntOp.muli, Scalar.muli]

/-- The pixels marked with a class are the class's boundary. -/
theorem isClass_marked_at (i : grid0.Coords) (g : Vec Ideal S1x384x384 .i32) (up dn : Vec Ideal S1x1x384 .i32) (n : ℕ)
    (hn : BitVec.ofNat 32 n ≠ 4294967295#32) (h w : Fin 384) :
    isClass (marked (F := Ideal) i g up dn) n (ix2 h w)
      = Spec.mark (fun h w => g (ix3 0 h w)) (BitVec.ofNat 32 n) h w := by
  unfold isClass marked k0_pay3132 k0_pay3127 k0_pay3128 k0_pay3129 k0_pay3130
  rw [coord_one i]
  pointwise
  have e1 : Scalar.cmpi .eq (Scalar.muli 0#32 384#32) 0#32 = 1#1 := by decide
  have e2 : Scalar.cmpi .eq (Scalar.addi (Scalar.muli 0#32 384#32) 384#32) 384#32 = 1#1 := by decide
  have first : ∀ k : Fin 384, IntOp.cmpi .eq (BitVec.ofNat 32 k.val) 0#32 = if k.val = 0 then 1#1 else 0#1 :=
    fun k => Spec.cmpi_eq_ofNat k.val 0 (by omega) (by omega)
  have last : ∀ k : Fin 384, IntOp.cmpi .eq (BitVec.ofNat 32 k.val) 383#32 = if k.val = 383 then 1#1 else 0#1 :=
    fun k => Spec.cmpi_eq_ofNat k.val 383 (by omega) (by omega)
  refine Spec.mark_of_labels (fun h w => g (ix3 0 h w)) _ h w _ _ _ _ hn ?_ ?_ ?_ ?_
  · rw [first, e1]
    by_cases e : h.val = 0
    · simp [e, Spec.select_bit]
    · rw [dif_pos (by omega), if_neg e]
      exact congrArg (fun k => g (ix3 0 k w)) (Fin.ext (by show (h.val + 384 - 1) % 384 = h.val - 1; omega))
  · rw [last, e2]
    by_cases e : h.val = 383
    · simp [e, Spec.select_bit]
    · rw [dif_pos (by omega), if_neg e]
      exact congrArg (fun k => g (ix3 0 k w)) (Fin.ext (by show (h.val + 384 - 383) % 384 = h.val + 1; omega))
  · rw [first]
    by_cases e : w.val = 0
    · simp [e, Spec.select_bit]
    · rw [dif_pos (by omega), if_neg e]
      exact congrArg (fun k => g (ix3 0 h k)) (Fin.ext (by show (w.val + 384 - 1) % 384 = w.val - 1; omega))
  · rw [last]
    by_cases e : w.val = 383
    · simp [e, Spec.select_bit]
    · rw [dif_pos (by omega), if_neg e]
      exact congrArg (fun k => g (ix3 0 h k)) (Fin.ext (by show (w.val + 384 - 383) % 384 = w.val + 1; omega))

/-- A sum over the classes, from the first to the last. -/
theorem sum_fourteen (f : Fin 14 → EReal) : ∑ c, f c
    = f 0 + f 1 + f 2 + f 3 + f 4 + f 5 + f 6 + f 7 + f 8 + f 9 + f 10 + f 11 + f 12 + f 13 := by
  rw [Fin.sum_univ_castSucc, Fin.sum_univ_castSucc, Fin.sum_univ_castSucc, Fin.sum_univ_castSucc, Fin.sum_univ_castSucc,
    Fin.sum_univ_castSucc, Fin.sum_univ_eight]
  rfl

/-- Eight rows' divergence at a pixel. -/
theorem slice_at (S T : Fin 14 → Vec Ideal S1x1x8x384 .f32) (r : Fin 8) (w : Fin 384) :
    slice (F := Ideal) S T (ix2 r w)
      = Spec.klPix (fun ch => S ch (ix4 0 0 r w)) (fun ch => T ch (ix4 0 0 r w)) := by
  unfold slice invZ chain scaled
  pointwise
  unfold Spec.klPix
  simp only [sum_fourteen]

end Cert.Body

end
-- ==== Proof.KerRows.lean ====
/- What an accumulator holds after its thirteen rows, and what the divergence holds after its forty-eight stores. -/
module

public import proofs.«01_k».proof.Proof.KerLabels
public import Idealize.ShloMosaic.Lib.Pipeline.ReadBack

@[expose] public section

set_option maxRecDepth 16384

noncomputable section

namespace Cert.Body

open Cert.KernelIdeal Cert.KernelIdeal.Gen Idealize.ShloMosaic

variable {F : FTy → Type} [FloatOps F]

/-- An index of a row, in the accumulator. -/
theorem rowRect_emb (n : ℕ) (h : n < 14) (j : S1x384.Idx) :
    (rowRect n h).emb j = (ix2 (⟨n, by omega⟩ : Fin 16) (j 1) : S16x384.Idx) := by
  funext a
  apply Fin.ext
  refine (Rect.emb_apply (rowRect n h) j a).trans ?_
  match a with
  | ⟨0, _⟩ =>
    have : (j 0).val < 1 := (j 0).isLt
    show n + 1 * (j 0).val = n
    omega
  | ⟨1, _⟩ =>
    show 0 + 1 * (j 1).val = (j 1).val
    omega

/-- The rows stored so far hold their step of the fill's row, and the others the fill. -/
theorem canon_rowPieces {e : EltTy} (v : View sig .tc .vmem S16x384 e) (z : S16x384.Idx → Elt F e)
    (step : ℕ → (S1x384.Idx → Elt F e) → S1x384.Idx → Elt F e) (n : ℕ) (h : n < 14) (r : Fin 16) (w : Fin 384) :
    View.canon (rowPieces v z step n h) (ix2 r w)
      = if 1 ≤ r.val ∧ r.val ≤ n then step r.val (fun j => z (ix2 r (j 1))) (ix2 0 w) else z (ix2 r w) := by
  induction n generalizing r w with
  | zero =>
    rw [if_neg (by omega)]
    exact congrFun (View.canon_cons_unit_lit inb_S16x384_S16x384_0_0 z [] (by decide)) _
  | succ n ih =>
    unfold rowPieces
    by_cases e : r.val = n + 1
    · obtain ⟨r, hr⟩ := r
      obtain rfl : r = n + 1 := e
      have hrow : v.readCov (rowPieces v z step n (Nat.lt_of_succ_lt h)) (rowRect (n + 1) h).toLoadRect
          = fun j : S1x384.Idx => z (ix2 (⟨n + 1, by omega⟩ : Fin 16) (j 1)) := by
        refine (View.readCov_eq_canon' _ _ _).trans (funext fun (j : S1x384.Idx) => ?_)
        refine (congrArg (View.canon (rowPieces v z step n (Nat.lt_of_succ_lt h))) (rowRect_emb (n + 1) h j)).trans ?_
        exact (ih _ ⟨n + 1, hr⟩ (j 1)).trans (if_neg (by simp))
      rw [if_pos (by simp), hrow]
      refine (congrArg (View.canon _) (rowRect_emb (n + 1) h (ix2 0 w)).symm).trans ?_
      exact View.canon_cons_emb (rowRect (n + 1) h) _ _ (ix2 0 w : S1x384.Idx)
    · rw [View.canon_cons_of_not_mem, ih]
      · exact if_congr (by omega) rfl rfl
      · show (ix2 r w : S16x384.Idx) ∉ (rowRect (n + 1) h).set
        unfold rowRect
        rw [Rect.mem_set_unit]
        intro hm
        have h0 := hm 0
        have h1 : n + 1 ≤ r.val := h0.1
        have h2 : r.val < n + 1 + 1 := h0.2
        omega

/-- The accumulator read back: rows from 1 to 13 hold their step of the fill's row. -/
theorem accRead_at {e : EltTy} (v : View sig .tc .vmem S16x384 e) (z : S16x384.Idx → Elt F e)
    (step : ℕ → (S1x384.Idx → Elt F e) → S1x384.Idx → Elt F e) (k : Fin 13) (w : Fin 384) :
    accRead v z step (ix2 ⟨k.val + 1, by omega⟩ w)
      = step (k.val + 1) (fun j => z (ix2 ⟨k.val + 1, by omega⟩ (j 1))) (ix2 0 w) := by
  unfold accRead
  rw [View.readCov_eq_canon']
  refine (congrFun (View.ld_unit_zero (S := S16x384) (off := ![0, 0]) (by decide) inb_S16x384_S16x384_0_0 _) _).trans ?_
  rw [canon_rowPieces, if_pos ⟨by show 1 ≤ k.val + 1; omega, by show k.val + 1 ≤ 13; omega⟩]

/-- The divergence read back at a pixel, from the logits of the pixel's eight rows. -/
theorem ksRead_at (v9 : View sig .tc .vmem S384x384 .f32) (S T : Fin 48 → Fin 14 → Vec Ideal S1x1x8x384 .f32)
    (h w : Fin 384) : ksRead (F := Ideal) v9 S T (ix2 h w)
      = Spec.klPix (fun ch => S ⟨h.val / 8, by omega⟩ ch (ix4 0 0 ⟨h.val % 8, by omega⟩ w))
          (fun ch => T ⟨h.val / 8, by omega⟩ ch (ix4 0 0 ⟨h.val % 8, by omega⟩ w)) := by
  unfold ksRead slicePieces
  rw [View.readCov_eq_canon']
  refine (congrFun (View.ld_unit_zero (S := S384x384) (off := ![0, 0]) (by decide) inb_S384x384_S384x384_0_0 _) _).trans ?_
  refine View.canon_ofFn_unit_eq_of_forall _ _ _ _ _ _ ?_ ?_
  · refine ⟨⟨47 - h.val / 8, by omega⟩, fun a => ?_⟩
    match a with
    | ⟨0, _⟩ =>
      show 8 * (47 - (47 - h.val / 8)) ≤ h.val ∧ h.val < 8 * (47 - (47 - h.val / 8)) + 8
      omega
    | ⟨1, _⟩ =>
      show 0 ≤ w.val ∧ w.val < 0 + 384
      omega
  · intro k x hx
    have h0 : h.val = 8 * (47 - k.val) + (x 0).val := hx 0
    have h1 : w.val = 0 + (x 1).val := hx 1
    have hx0 : (x 0).val < 8 := (x 0).isLt
    have ex : x = (ix2 (⟨h.val % 8, by omega⟩ : Fin 8) w : S8x384.Idx) := by
      funext a
      apply Fin.ext
      match a with
      | ⟨0, _⟩ => show (x 0).val = h.val % 8; omega
      | ⟨1, _⟩ => show (x 1).val = w.val; omega
    have ek : (⟨47 - k.val, by omega⟩ : Fin 48) = ⟨h.val / 8, by omega⟩ := Fin.ext (by show 47 - k.val = h.val / 8; omega)
    rw [ex, ek]
    exact slice_at _ _ _ _

end Cert.Body

end
-- ==== Proof.KerSums.lean ====
/- The kernel's row steps and its finalisation at an index. -/
module

public import proofs.«01_k».proof.Proof.Body
public import proofs.«01_k».proof.Proof.Spec
public import Idealize.ShloMosaic.Lib.Pipeline.ValueKit

@[expose] public section

set_option maxRecDepth 16384

noncomputable section

namespace Cert.Body

open Cert.KernelIdeal Cert.KernelIdeal.Gen Idealize.ShloMosaic

/-- A bit as a number. -/
theorem sitofp_bit (b : BitVec 1) :
    (FloatOps.sitofp .f32 (BitVec.setWidth 32 b) : Ideal .f32) = if b = 1#1 then (1 : EReal) else 0 := by
  show (((BitVec.setWidth 32 b).toInt : ℝ) : EReal) = _
  rcases BitVec.eq_zero_or_eq_one b with rfl | rfl <;> simp

/-- A column's count. -/
theorem countStep_at (gb : IVec S384x384 32) (n : ℕ) (old : FVec Ideal S1x384 .f32) (w : Fin 384) :
    countStep (F := Ideal) gb n old (ix2 0 w)
      = old (ix2 0 w) + ∑ h : Fin 384, if isClass gb n (ix2 h w) = 1#1 then (1 : EReal) else 0 := by
  unfold countStep
  generalize isClass gb n = B
  pointwise
  simp only [sitofp_bit]

/-- A column's divergence. -/
theorem klStep_at (gb : IVec S384x384 32) (ks : Vec Ideal S384x384 .f32) (n : ℕ) (old : FVec Ideal S1x384 .f32)
    (w : Fin 384) : klStep (F := Ideal) gb ks n old (ix2 0 w)
      = old (ix2 0 w) + ∑ h : Fin 384, if isClass gb n (ix2 h w) = 1#1 then ks (ix2 h w) else (0 : EReal) := by
  unfold klStep
  generalize isClass gb n = B
  pointwise
  rfl

/-- A column's positions. -/
theorem indexStep_at (gb pos : IVec S384x384 32) (n : ℕ) (old : IVec S1x384 32) (w : Fin 384) :
    indexStep gb pos n old (ix2 0 w)
      = old (ix2 0 w) + ∑ h : Fin 384, if isClass gb n (ix2 h w) = 1#1 then pos (ix2 h w) else 0#32 := by
  unfold indexStep
  generalize isClass gb n = B
  pointwise
  rw [Spec.fold_addi]
  rfl

/-- The word of fourteen. -/
theorem ofBits_fourteen : Ideal.ofBits .f32 0x41600000#32 = ((14 : ℝ) : EReal) := by
  simp [Ideal.ofBits, Ideal.ieee]
  rw [← EReal.coe_mul]
  norm_num

/-- The amount a point adds: rows from 1 to 13 of the three accumulators, row sums taken. -/
theorem pay2_at (N K : Vec Ideal S16x384 .f32) (X : Vec Ideal S16x384 .i32) (acc : EReal) :
    k0_pay2 (F := Ideal) N X K acc = acc + ∑ k : Fin 13,
      if (0#32).slt (∑ w : Fin 384, X (ix2 ⟨k.val + 1, by omega⟩ w)) then
        Ideal.div (∑ w : Fin 384, K (ix2 ⟨k.val + 1, by omega⟩ w))
          (max ((∑ w : Fin 384, N (ix2 ⟨k.val + 1, by omega⟩ w)) * ((14 : ℝ) : EReal)) 1)
      else (0 : EReal) := by
  unfold k0_pay2
  pointwise
  refine congrArg (acc + ·) ?_
  rw [ofBits_fourteen, Fin.sum_univ_castSucc, Fin.sum_univ_castSucc, Fin.sum_univ_succ]
  have cut : ∀ (x : BitVec 32) (r : ℕ) (hr : r < 16) (a : EReal), Scalar.select (IntOp.andi (IntOp.andi (IntOp.cmpi .sgt x 0#32)
      (IntOp.cmpi .sge (BitVec.ofNat 32 r) 1#32)) (IntOp.cmpi .slt (BitVec.ofNat 32 r) 14#32)) a 0
        = if 1 ≤ r ∧ r < 14 then (if (0#32).slt x then a else 0) else 0 := by
    intro x r hr a
    rw [Spec.select_bit]
    interval_cases r <;> by_cases e : (0#32).slt x <;> simp [IntOp.cmpi, IntOp.andi, e] <;> decide
  simp only [Spec.fold_addi]
  rw [cut _ _ (by decide), cut _ _ (by decide), cut _ _ (by decide), if_neg (by decide), if_neg (by decide),
    if_neg (by decide), zero_add, add_zero, add_zero]
  refine Finset.sum_congr rfl fun k _ => ?_
  rw [cut _ _ (by simp; omega), if_pos (by simp; omega)]
  rfl

end Cert.Body

end
-- ==== Proof.KerPoint.lean ====
/- What one grid point adds to the loss: its batch's loss. -/
module

public import proofs.«01_k».proof.Proof.KerRows
public import proofs.«01_k».proof.Proof.KerSums

@[expose] public section

set_option maxRecDepth 16384

noncomputable section

namespace Cert.Body

open Cert.KernelIdeal Cert.KernelIdeal.Gen Idealize.ShloMosaic

/-- The accumulators start at zero. -/
theorem fill_float (j : S16x384.Idx) : k0_pay4 (F := Ideal) j = (0 : EReal) := by
  unfold k0_pay4
  idx_vars j
  pointwise

/-- The real-valued scratch rows start at zero. -/
theorem fill_float' (j : S16x384.Idx) : k0_pay6 (F := Ideal) j = (0 : EReal) := by
  unfold k0_pay6
  idx_vars j
  pointwise

/-- The integer scratch rows start at zero. -/
theorem fill_word (j : S16x384.Idx) : k0_pay5 j = 0#32 := by
  unfold k0_pay5
  idx_vars j
  pointwise

/-- The classes' words are not minus one. -/
theorem class_ne (k : Fin 13) : BitVec.ofNat 32 (k.val + 1) ≠ 4294967295#32 := by
  revert k
  decide

/-- The sum of a bit over the pixels is their number. -/
theorem sum_bits (P : Fin 384 × Fin 384 → Prop) [DecidablePred P] :
    (∑ p, if P p then (1 : EReal) else 0) = (((Finset.univ.filter P).card : ℝ) : EReal) := by
  have e : ∀ p, (if P p then (1 : EReal) else 0) = (((if P p then 1 else 0 : ℝ)) : EReal) := by
    intro p
    split_ifs <;> rfl
  simp only [e]
  rw [Spec.coe_sum, Finset.sum_boole]

/-- A point's loss, from the loss before it. -/
theorem pointLoss_eq (v6 : View sig .tc .vmem S16x384 .f32) (v7 : View sig .tc .vmem S16x384 .i32)
    (v8 : View sig .tc .vmem S16x384 .f32) (v9 : View sig .tc .vmem S384x384 .f32)
    (S T : Fin 48 → Fin 14 → Vec Ideal S1x1x8x384 .f32) (i : grid0.Coords) (g : Vec Ideal S1x384x384 .i32)
    (up dn : Vec Ideal S1x1x384 .i32) (acc : EReal) :
    pointLoss (F := Ideal) v6 v7 v8 v9 S T (marked (F := Ideal) i g up dn) (position i) acc
      = acc + Spec.batch (fun h w => g (ix3 0 h w)) fun h w =>
          Spec.klPix (fun ch => S ⟨h.val / 8, by omega⟩ ch (ix4 0 0 ⟨h.val % 8, by omega⟩ w))
            (fun ch => T ⟨h.val / 8, by omega⟩ ch (ix4 0 0 ⟨h.val % 8, by omega⟩ w)) := by
  unfold pointLoss
  rw [pay2_at]
  refine congrArg (acc + ·) (Finset.sum_congr rfl fun k _ => ?_)
  have hI : ∑ w : Fin 384, accRead (F := Ideal) (e := .i32) v7 k0_pay5 (indexStep (marked (F := Ideal) i g up dn) (position i))
      (ix2 ⟨k.val + 1, by omega⟩ w) = Spec.markIndex (fun h w => g (ix3 0 h w)) (BitVec.ofNat 32 (k.val + 1)) := by
    unfold Spec.markIndex
    rw [Fintype.sum_prod_type_right]
    refine Finset.sum_congr rfl fun w _ => ?_
    refine (accRead_at (F := Ideal) (e := .i32) v7 k0_pay5 _ k w).trans ?_
    rw [indexStep_at, fill_word]
    simp only [isClass_marked_at i g up dn _ (class_ne k), position_at]
    exact zero_add _
  have hK : ∑ w : Fin 384, (accRead (F := Ideal) v8 (k0_pay6 (F := Ideal)) (klStep (F := Ideal) (marked (F := Ideal) i g up dn) (ksRead v9 S T))
      (ix2 ⟨k.val + 1, by omega⟩ w) : EReal) = Spec.markSum (fun h w => g (ix3 0 h w)) (BitVec.ofNat 32 (k.val + 1))
        fun h w => Spec.klPix (fun ch => S ⟨h.val / 8, by omega⟩ ch (ix4 0 0 ⟨h.val % 8, by omega⟩ w))
            (fun ch => T ⟨h.val / 8, by omega⟩ ch (ix4 0 0 ⟨h.val % 8, by omega⟩ w)) := by
    unfold Spec.markSum
    rw [Fintype.sum_prod_type_right]
    refine Finset.sum_congr rfl fun w _ => ?_
    refine (accRead_at (F := Ideal) v8 (k0_pay6 (F := Ideal)) _ k w).trans ?_
    rw [klStep_at, fill_float']
    simp only [isClass_marked_at i g up dn _ (class_ne k), ksRead_at]
    exact zero_add _
  have hN : ∑ w : Fin 384, (accRead (F := Ideal) v6 (k0_pay4 (F := Ideal)) (countStep (F := Ideal) (marked (F := Ideal) i g up dn))
      (ix2 ⟨k.val + 1, by omega⟩ w) : EReal)
        = ((Spec.markCount (fun h w => g (ix3 0 h w)) (BitVec.ofNat 32 (k.val + 1)) : ℝ) : EReal) := by
    unfold Spec.markCount
    rw [← sum_bits, Fintype.sum_prod_type_right]
    refine Finset.sum_congr rfl fun w _ => ?_
    refine (accRead_at (F := Ideal) v6 (k0_pay4 (F := Ideal)) _ k w).trans ?_
    rw [countStep_at, fill_float]
    simp only [isClass_marked_at i g up dn _ (class_ne k)]
    exact zero_add _
  have hM : ∀ N : ℕ, max (((N : ℝ) : EReal) * ((14 : ℝ) : EReal)) 1 = (((max (N * 14) 1 : ℕ) : ℝ) : EReal) := by
    intro N
    rw [← EReal.coe_mul, ← EReal.coe_one, ← EReal.coe_strictMono.monotone.map_max]
    push_cast
    rfl
  rw [hI, hK, hN, hM]
  rfl

end Cert.Body

end
-- ==== Proof.RunValue.lean ====
/- What a run stores, as numbers: the loss a point finds, plus its batch's loss. -/
module

public import proofs.«01_k».proof.Proof.RunTerm
public import proofs.«01_k».proof.Proof.KerPoint
public import Idealize.ShloMosaic.Lib.WholeRead

@[expose] public section

set_option maxRecDepth 16384

noncomputable section

namespace Cert.RunTerm

open Cert.KernelIdeal Cert.KernelIdeal.Gen Cert.Body Idealize.ShloMosaic Idealize.ShloMosaic.TcCoe Idealize.SL.Sem

/-- The loss of the blocks of one grid point. -/
def blockLoss (x0 x1 : Vec Ideal S1x14x384x384 .f32) (x2 : Vec Ideal S1x384x384 .i32) : EReal :=
  Spec.batch (fun h w => x2 (ix3 0 h w)) fun h w =>
    Spec.klPix (fun ch => x0 (ix4 0 ch h w)) (fun ch => x1 (ix4 0 ch h w))

/-- A slice read from a buffer that holds a block is the block's rows. -/
theorem rawSlice_at (a : Memref sig .tc .vmem S1x14x384x384 .f32) (ha : a.IsWhole) (x : Vec Ideal S1x14x384x384 .f32)
    (ch : Fin 14) (h w : Fin 384) :
    rawSlice (F := Ideal) a ha x ⟨h.val / 8, by omega⟩ ch (ix4 0 0 ⟨h.val % 8, by omega⟩ w) = x (ix4 0 ch h w) := by
  unfold rawSlice
  refine (ha.readAt_unread x _ _).trans (congrArg x ?_)
  funext d
  apply Fin.ext
  match d with
  | ⟨0, _⟩ => rfl
  | ⟨1, _⟩ => show ch.val + 1 * 0 = ch.val; omega
  | ⟨2, _⟩ => show 8 * (h.val / 8) + 1 * (h.val % 8) = h.val; omega
  | ⟨3, _⟩ => show 0 + 1 * w.val = w.val; omega

/-- The labels read from a buffer that holds a block are the block. -/
theorem rawLabels_at (i : grid0.Coords) (a : Memref sig .tc .vmem S1x384x384 .i32) (ha : a.IsWhole)
    (x : Vec Ideal S1x384x384 .i32) (h w : Fin 384) :
    View.readAt (Elt Ideal) a.view (Rect.unit (s := S1x384x384) (k0_off1 i) S1x384x384.size (k0_off1_inb i)).toLoadRect
      (ha.unread x) (ix3 0 h w : S1x384x384.Idx) = x (ix3 0 h w) := by
  refine (ha.readAt_unread x _ _).trans (congrArg x ?_)
  have e := k0_off1_eq i
  rw [coord_one i] at e
  funext d
  apply Fin.ext
  match d with
  | ⟨0, _⟩ => show k0_off1 i 0 + 1 * 0 = 0; rw [e]; rfl
  | ⟨1, _⟩ => show k0_off1 i 1 + 1 * h.val = h.val; rw [e]; show 384 * 0 + 1 * h.val = h.val; omega
  | ⟨2, _⟩ => show k0_off1 i 2 + 1 * w.val = w.val; rw [e]; show 0 + 1 * w.val = w.val; omega

section

variable (i : grid0.Coords) (arg2 : Memref sig .tc .vmem S1x14x384x384 .f32) (harg2 : arg2.IsWhole)
  (arg3 : Memref sig .tc .vmem S1x14x384x384 .f32) (harg3 : arg3.IsWhole)
  (arg4 : Memref sig .tc .vmem S1x384x384 .i32) (harg4 : arg4.IsWhole)
  (arg6 : Memref sig .tc .vmem S16x384 .f32) (arg7 : Memref sig .tc .vmem S16x384 .i32)
  (arg8 : Memref sig .tc .vmem S16x384 .f32) (arg9 : Memref sig .tc .vmem S384x384 .f32)
  (arg10 : Memref sig .tc .smem S1 .f32) (harg10 : arg10.IsWhole)
  (x0 x1 : Vec Ideal S1x14x384x384 .f32) (x2 : Vec Ideal S1x384x384 .i32) (xs4 : Vec Ideal S1 .f32)

/-- The loss a point leaves is the loss it finds plus its blocks' loss. -/
theorem rawLoss_eq (acc : EReal) :
    rawLoss (F := Ideal) i arg2 harg2 arg3 harg3 arg4 harg4 arg6 arg7 arg8 arg9 x0 x1 x2 acc
      = acc + blockLoss x0 x1 x2 := by
  unfold rawLoss rawMarked
  rw [pointLoss_eq]
  refine congrArg (acc + ·) (congrArg₂ Spec.batch (funext fun h => funext fun w => rawLabels_at i arg4 harg4 x2 h w)
    (funext fun h => funext fun w => ?_))
  simp only [rawSlice_at]

/-- The carried loss read back. -/
theorem rawCarry_eq : rawCarry (F := Ideal) arg10 harg10 xs4 = xs4 (ix1 0) := by
  unfold rawCarry
  refine (harg10.readAt_unread xs4 _ _).trans (congrArg xs4 ?_)
  funext d
  apply Fin.ext
  match d with
  | ⟨0, _⟩ => rfl

end

end Cert.RunTerm

end
-- ==== Proof.Outs.lean ====
/- The loss after each of the four grid points, and the kernel's result. -/
module

public import proofs.«01_k».proof.Proof.RunValue

@[expose] public section

set_option maxRecDepth 16384

noncomputable section

namespace Cert.Outs

open Cert.KernelIdeal Cert.KernelIdeal.Gen Cert.Body Cert.RunTerm Idealize.ShloMosaic Idealize.ShloMosaic.TcCoe
open Idealize.SL.Sem

variable (m : (ℓ : Loc nD τ sig) → Buf (Elt Ideal) ℓ) (c : Dev nD)

/-- The loss of a point's blocks. -/
def pointBatch (t : Fin cfg0.N) : EReal := blockLoss (iblk m c 0 t) (iblk m c 1 t) (iblk m c 2 t)

/-- The last store to a one-element buffer is what it holds. -/
theorem canon_one (x : EReal) (L : List (View.Piece (Elt Ideal) S1 .f32)) :
    View.canon ((⟨Rect.unit ![0] ![1] inb_S1_S1_0, fun _ => x⟩ : View.Piece (Elt Ideal) S1 .f32) :: L) = fun _ => x :=
  View.canon_cons_unit_lit (S := S1) inb_S1_S1_0 (fun _ => x : S1.Idx → Elt Ideal .f32) L (by decide)

/-- The carried loss after the first point. -/
theorem carry_first (t : Fin cfg0.N) (h1 : t.val % 4 = 0) (h3 : ¬t.val % 4 = 3) :
    (outsAt0 m c t.val t.isLt).2 = fun _ => pointBatch m c t := by
  rw [outsAt0_A m c t h1 h3]
  dsimp only
  unfold sout0_A_4
  rw [View.read_writes_junk_eq_canon, run_A, canon_one, rawLoss_eq]
  refine funext fun _ => ?_
  show Ideal.ofBits .f32 0x00000000#32 + _ = _
  rw [Ideal.ofBits_zero_f32, zero_add]
  rfl

/-- The carried loss after a middle point. -/
theorem carry_next (t : Fin cfg0.N) (h1 : ¬t.val % 4 = 0) (h3 : ¬t.val % 4 = 3) :
    (outsAt0 m c t.val t.isLt).2 = fun _ =>
      ((outsAt0 m c (t.val - 1) (Nat.lt_of_le_of_lt (Nat.sub_le _ _) t.isLt)).2 (ix1 0) : EReal) + pointBatch m c t := by
  rw [outsAt0_B m c t h1 h3]
  dsimp only
  unfold sout0_B_4
  rw [View.read_writes_junk_eq_canon, run_B, canon_one, rawLoss_eq, rawCarry_eq]
  rfl

/-- The result after the last point. -/
theorem out_last (t : Fin cfg0.N) (h1 : ¬t.val % 4 = 0) (h3 : t.val % 4 = 3) :
    (outsAt0 m c t.val t.isLt).1 = fun _ =>
      ((outsAt0 m c (t.val - 1) (Nat.lt_of_le_of_lt (Nat.sub_le _ _) t.isLt)).2 (ix1 0) : EReal) + pointBatch m c t := by
  rw [outsAt0_C m c t h1 h3]
  dsimp only
  unfold out0_C_3
  rw [View.read_writes_junk_eq_canon, run_C, canon_one, rawLoss_eq, rawCarry_eq]
  refine funext fun _ => ?_
  unfold k0_pay3
  show Ideal.ofBits .f32 0x3F800000#32 * _ = _
  rw [Ideal.ofBits_one_f32]
  exact one_mul _

/-- The four grid points. -/
abbrev pt (b : Fin 4) : Fin cfg0.N := ⟨b.val, by have : cfg0.N = 4 := N_0; omega⟩

/-- The result after the last point is the sum of the four points' losses. -/
theorem out_eq : (outsAt0 m c (pt 3).val (pt 3).isLt).1 = fun _ => ∑ b : Fin 4, pointBatch m c (pt b) := by
  rw [out_last m c (pt 3) (by decide) (by decide)]
  have e2 := carry_next m c (pt 2) (by decide) (by decide)
  have e1 := carry_next m c (pt 1) (by decide) (by decide)
  have e0 := carry_first m c (pt 0) (by decide) (by decide)
  funext _
  rw [Fin.sum_univ_four]
  refine congrArg (· + _) ?_
  refine (congrFun e2 (ix1 0)).trans (congrArg (· + _) ?_)
  refine (congrFun e1 (ix1 0)).trans (congrArg (· + _) ?_)
  exact congrFun e0 (ix1 0)

/-- At each grid point the logits' windows and the labels' window are at the point's own batch. -/
theorem index_eq : ∀ t : Fin cfg0.N,
    (cfg0.win 0).index t = ![t.val, 0, 0, 0] ∧ (cfg0.win 1).index t = ![t.val, 0, 0, 0] ∧ (cfg0.win 2).index t = ![t.val, 0, 0] := by
  decide +kernel

/-- The first window's blocks are the batches of the student's logits. -/
theorem iblk0_at (b : Fin 4) (ch : Fin 14) (h w : Fin 384) :
    iblk m c 0 (pt b) (ix4 0 ch h w : S1x14x384x384.Idx) = m ((c.tc : Thread nD τ).loc main_arg0) (ix4 b ch h w) := by
  have e := (index_eq (pt b)).1
  have e0 := congrFun e 0
  have e1 := congrFun e 1
  have e2 := congrFun e 2
  have e3 := congrFun e 3
  blk_ext [iblk, V, e0, e1, e2, e3]

/-- The second window's blocks are the batches of the teacher's logits. -/
theorem iblk1_at (b : Fin 4) (ch : Fin 14) (h w : Fin 384) :
    iblk m c 1 (pt b) (ix4 0 ch h w : S1x14x384x384.Idx) = m ((c.tc : Thread nD τ).loc main_arg1) (ix4 b ch h w) := by
  have e := (index_eq (pt b)).2.1
  have e0 := congrFun e 0
  have e1 := congrFun e 1
  have e2 := congrFun e 2
  have e3 := congrFun e 3
  blk_ext [iblk, V, e0, e1, e2, e3]

/-- The third window's array is the labels without their axis of one. -/
theorem V_main_v0 (b : Fin 4) (h w : Fin 384) :
    V m c main_v0 (ix3 b h w) = m ((c.tc : Thread nD τ).loc main_arg2) (ix4 b 0 h w) := by
  have e : V m c main_v0 = shapeCast S4x384x384 (m ((c.tc : Thread nD τ).loc main_arg2)) shapeCasts_S4x1x384x384_S4x384x384 := by
    simp only [V, V0, hostOps0, List.flatten_cons, List.flatten_nil, List.append_nil, StableHlo.after_cons, StableHlo.after_nil]
    exact StableHlo.reshape_result main_arg2 main_v0 rfl shapeCasts_S4x1x384x384_S4x384x384 _ _ _
  rw [e]
  exact shapeCast_apply _ _ _ _ (by
    show (S4x1x384x384.rowMajor (ix4 b 0 h w)).val = _
    rw [Shape.rowMajor_val_four, Shape.rowMajor_val_three]
    show ((b.val * 1 + 0) * 384 + h.val) * 384 + w.val = (b.val * 384 + h.val) * 384 + w.val
    rw [Nat.mul_one, Nat.add_zero])

/-- The third window's blocks are the batches of the labels. -/
theorem iblk2_at (b : Fin 4) (h w : Fin 384) :
    iblk m c 2 (pt b) (ix3 0 h w : S1x384x384.Idx) = m ((c.tc : Thread nD τ).loc main_arg2) (ix4 b 0 h w) := by
  have e := (index_eq (pt b)).2.2
  have e0 := congrFun e 0
  have e1 := congrFun e 1
  have e2 := congrFun e 2
  refine Eq.trans ?_ (V_main_v0 m c b h w)
  show V m c main_v0 (((cfg0.win 2).blk (pt b)).view.emb (ix3 0 h w : S1x384x384.Idx)) = _
  blk_ext [e0, e1, e2]

/-- The loss the run leaves: the sum over the four batches. -/
def total : EReal :=
  ∑ b : Fin 4, Spec.batch (fun h w => (m ((c.tc : Thread nD τ).loc main_arg2) : S4x1x384x384.Idx → BitVec 32) (ix4 b 0 h w)) fun h w =>
    Spec.klPix (fun ch => (m ((c.tc : Thread nD τ).loc main_arg0) : S4x14x384x384.Idx → EReal) (ix4 b ch h w))
      (fun ch => (m ((c.tc : Thread nD τ).loc main_arg1) : S4x14x384x384.Idx → EReal) (ix4 b ch h w))

/-- The four points' losses add up to that sum. -/
theorem sum_pointBatch : ∑ b : Fin 4, pointBatch m c (pt b) = total m c := by
  refine Finset.sum_congr rfl fun b _ => ?_
  refine congrArg₂ Spec.batch (funext fun h => funext fun w => iblk2_at m c b h w) (funext fun h => funext fun w => ?_)
  exact congrArg₂ Spec.klPix (funext fun ch => iblk0_at m c b ch h w) (funext fun ch => iblk1_at m c b ch h w)

/-- The kernel's output array ends holding the sum. -/
theorem arr_eq : (dats m 0 c).arrAt 3 cfg0.N = fun _ => total m c := by
  refine (dats m 0 c).arrAt_eq_of_after_last 3 (pt 3) (by decide +kernel) _ fun j => ?_
  rw [← sum_pointBatch]
  exact congrFun ((after0_3 m c (pt 3)).trans (out_eq m c)) _

variable (ρ : Dev nD → PrngReg)

/-- The kernel's run: its result is the sum, its arguments unchanged. -/
theorem run : θ_run defs (onTc (τ := τ) (main (F := Ideal))) ⟨m, fun _ => 0, ρ⟩ (fun r => ∀ c : Dev nD,
    r.2.mem ((c.tc : Thread nD τ).loc main_v2) = (fun _ => total m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)) := by
  run_from (run_main m ρ) & (unchanged m ρ)
  simp only [Pipeline.afterTail₀, hostOps1, List.flatten_cons, List.flatten_nil, List.append_nil, StableHlo.after_cons, StableHlo.after_nil]
  refine (StableHlo.reshape_result main_v1 main_v2 rfl shapeCasts_S1_S_ _ _ _).trans ?_
  funext i
  have e := (Pipeline.withArrays_arr spec0 (by decide) c (V0 m c) (fun w => (dats m 0 c).arrAt w cfg0.N) 3).trans (arr_eq m c)
  exact congrFun e _

end Cert.Outs

end
-- ==== Proof.Finite.lean ====
/- What the precondition says of the logits: none is infinite. -/
module

public import proofs.«01_k».proof.Defs
public import Idealize.ShloMosaic.Lib.Pipeline.ValueKit

@[expose] public section

noncomputable section

namespace Cert.Finite

open Cert.Pre_finite_logits Idealize.ShloMosaic

/-- The side condition the precondition states: a scalar broadcasts to the logits' shape. -/
theorem facts : Cert.Pre_finite_logits.Facts where
  bcast_S_S4x14x384x384 := by decide

/-- The word of the positive infinity. -/
theorem ofBits_top : Ideal.ofBits .f32 0x7F800000#32 = (⊤ : EReal) := by
  simp [Ideal.ofBits, Ideal.ieee]

/-- A number whose absolute value is under the positive infinity is not infinite. -/
theorem real_of_test (x : EReal) (h : Ideal.cmp .olt (max x (-x)) (Ideal.ofBits .f32 0x7F800000#32) = 1#1) :
    x ≠ ⊥ ∧ x ≠ ⊤ := by
  have hlt : max x (-x) < ⊤ := by
    by_contra hn
    rw [ofBits_top] at h
    have e : Ideal.cmp .olt (max x (-x)) ⊤ = BitVec.ofBool (decide (max x (-x) < ⊤)) := rfl
    rw [e, decide_eq_false hn] at h
    exact absurd h (by decide)
  constructor
  · rintro rfl
    simp at hlt
  · rintro rfl
    simp at hlt

/-- Two bits whose conjunction is one are both one. -/
theorem both_of_and : ∀ a b : BitVec 1, a &&& b = 1#1 → a = 1#1 ∧ b = 1#1 := by decide

/-- Where the precondition holds, every logit of both arrays is a real number. -/
theorem real_logits [Cert.Pre_finite_logits.Facts] (s t : FVec Ideal S4x14x384x384 .f32) (g : IVec S4x1x384x384 32)
    (h : fn (F := Ideal) s t g = fun _ => 1#1) :
    (∀ i, s i ≠ (⊥ : EReal) ∧ s i ≠ (⊤ : EReal)) ∧ ∀ i, t i ≠ (⊥ : EReal) ∧ t i ≠ (⊤ : EReal) := by
  have e := fun i => both_of_and _ _ (congrFun h i)
  exact ⟨fun i => real_of_test _ (e i).1, fun i => real_of_test _ (e i).2⟩

end Cert.Finite

end
-- ==== Proof.lean ====
/- The claim of this certificate, put together from the frames, the runs and the equation of the two results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.ReferenceIdeal
public import proofs.«01_k».proof.Proof.RefFrame
public import proofs.«01_k».proof.Proof.RefSum
public import proofs.«01_k».proof.Proof.Outs
public import proofs.«01_k».proof.Proof.Finite
public import Idealize.ShloMosaic.Adequacy
public import Idealize.ShloMosaic.Init

@[expose] public section

noncomputable section

namespace Cert.Proof

open Idealize.ShloMosaic Idealize.SL.Sem Cert.Kernel

/-- From memories that agree on the arguments, with logits that are real numbers, the kernel and the reference end with
    the same loss: each is the sum of the four batches' losses. -/
theorem same_loss : Cert.algebraic_KernelIdeal_ReferenceIdeal_pre_finite_logits
    (hKernelIdeal := Cert.KernelIdeal.Gen.facts) (hReferenceIdeal := Cert.ReferenceIdeal.Gen.facts)
    (hPre_finite_logits := Cert.Finite.facts) := by
  intro m g m' g' hpre hagree
  refine ⟨fun c => fun _ => Cert.Outs.total m c, Cert.Outs.run m g, θ_run_mono (Cert.ReferenceIdeal.Value.run m' g') ?_⟩
  intro r hr c
  refine ⟨(hr c).1.trans ((Cert.RefTerm.res_eq m' c).trans ?_), (hr c).2⟩
  haveI := Cert.Finite.facts
  obtain ⟨hs, ht⟩ := Cert.Finite.real_logits _ _ _ (hpre c)
  rw [(hagree c).1, (hagree c).2.1, (hagree c).2.2]
  exact funext fun i => Cert.RefTerm.loss_eq _ _ _ hs ht i

/-- The frames, the kernel read at the reals being the printed kernel's own text, and the equal losses. -/
theorem claim : Cert.Claim :=
  ⟨Cert.Kernel.Gen.facts, Cert.KernelIdeal.Gen.facts, Cert.ReferenceIdeal.Gen.facts, Cert.Finite.facts,
    fun m ρ _ => Cert.Kernel.Gen.frame m ρ, fun m ρ _ => Cert.KernelIdeal.Gen.frame m ρ,
    fun m ρ _ => Cert.KernelIdeal.Gen.frame m ρ, fun m ρ _ => Cert.RefFrame.frame m ρ,
    fun m ρ _ => Cert.RefFrame.frame m ρ, trivial, same_loss⟩

end Cert.Proof

end
